-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoder_finite [hPre_encoder_finite : Cert.Pre_encoder_finite.Facts] (m : (ℓ : Loc Cert.KernelIdeal.nD Cert.KernelIdeal.τ Cert.KernelIdeal.sig) → Buf (Elt Ideal) ℓ) : Prop :=
  ∀ c : Dev Cert.KernelIdeal.nD,
    (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoder_finite [hPre_encoder_finite : Cert.Pre_encoder_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_encoder_finite [hKernelIdeal : Cert.KernelIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoder_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_encoder_finite [hReferenceIdeal : Cert.ReferenceIdeal.Facts] [hPre_encoder_finite : Cert.Pre_encoder_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoder_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_encoder_finite [hKernelIdeal : Cert.KernelIdeal.Facts] [hReferenceIdeal : Cert.ReferenceIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoder_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v101)) (v1 : (c : Dev Cert.KernelIdeal.nD) → Buf (Elt Ideal) ((c.tc : Thread Cert.KernelIdeal.nD Cert.KernelIdeal.τ).loc Cert.KernelIdeal.main_v102)) (v2 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_v102) = v1 c
          ∧ r.2.mem ((c.tc : Thread Cert.KernelIdeal.nD Cert.KernelIdeal.τ).loc Cert.KernelIdeal.main_v102) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_v224) = v1 c
          ∧ r.2.mem ((c.tc : Thread Cert.ReferenceIdeal.nD Cert.ReferenceIdeal.τ).loc Cert.ReferenceIdeal.main_v231) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_encoder_finite : Cert.Pre_encoder_finite.Facts),
    quiescent_Kernel (hKernel := hKernel)
    ∧ quiescent_KernelIdeal (hKernelIdeal := hKernelIdeal)
    ∧ quiescent_KernelIdeal_pre_encoder_finite (hKernelIdeal := hKernelIdeal) (hPre_encoder_finite := hPre_encoder_finite)
    ∧ quiescent_ReferenceIdeal (hReferenceIdeal := hReferenceIdeal)
    ∧ quiescent_ReferenceIdeal_pre_encoder_finite (hReferenceIdeal := hReferenceIdeal) (hPre_encoder_finite := hPre_encoder_finite)
    ∧ preserves_Kernel_KernelIdeal
    ∧ algebraic_KernelIdeal_ReferenceIdeal_pre_encoder_finite (hKernelIdeal := hKernelIdeal) (hReferenceIdeal := hReferenceIdeal) (hPre_encoder_finite := hPre_encoder_finite)
-- ==== Pre_encoder_finite.lean ====
abbrev S8x3x64x64 : Shape := ⟨4, ![8, 3, 64, 64]⟩
abbrev S512x64 : Shape := ⟨2, ![512, 64]⟩
abbrev S64x3x4x4 : Shape := ⟨4, ![64, 3, 4, 4]⟩
abbrev S64x64x4x4 : Shape := ⟨4, ![64, 64, 4, 4]⟩
abbrev S64x64x3x3 : Shape := ⟨4, ![64, 64, 3, 3]⟩
abbrev S64x64x1x1 : Shape := ⟨4, ![64, 64, 1, 1]⟩
abbrev S64 : Shape := ⟨1, ![64]⟩
abbrev S3 : Shape := ⟨1, ![3]⟩
abbrev S_ : Shape := ⟨0, ![]⟩

class Facts : Prop where
  bcast_S_S8x3x64x64 : S_.BroadcastsInDim S8x3x64x64 (![] : Fin 0 → Fin S8x3x64x64.rank)
  bcast_S_S512x64 : S_.BroadcastsInDim S512x64 (![] : Fin 0 → Fin S512x64.rank)
  bcast_S_S64x3x4x4 : S_.BroadcastsInDim S64x3x4x4 (![] : Fin 0 → Fin S64x3x4x4.rank)
  bcast_S_S64x64x4x4 : S_.BroadcastsInDim S64x64x4x4 (![] : Fin 0 → Fin S64x64x4x4.rank)
  bcast_S_S64x64x3x3 : S_.BroadcastsInDim S64x64x3x3 (![] : Fin 0 → Fin S64x64x3x3.rank)
  bcast_S_S64x64x1x1 : S_.BroadcastsInDim S64x64x1x1 (![] : Fin 0 → Fin S64x64x1x1.rank)

variable [Facts]

def fn_part1 {F : FTy → Type} [FloatOps F] (main_arg6 : FVec F S64x64x3x3 .f32) (main_arg7 : FVec F S64x64x1x1 .f32) (main_v2 : IVec S8x3x64x64 1) (main_v5 : IVec S512x64 1) (main_v8 : IVec S64x3x4x4 1) (main_v11 : IVec S64x64x4x4 1) (main_v14 : IVec S64x64x3x3 1) (main_v17 : IVec S64x64x1x1 1) : IVec S8x3x64x64 1 × IVec S512x64 1 × IVec S64x3x4x4 1 × IVec S64x64x4x4 1 × IVec S64x64x3x3 1 × IVec S64x64x1x1 1 × IVec S64x64x3x3 1 × IVec S64x64x1x1 1 :=
  let main_v18 : FVec F S64x64x3x3 .f32 := Host.absf main_arg6
  let main_cst_5 : FVec F S_ .f32 := constant S_ .f32 0x7F800000#32
  let main_v19 : FVec F S64x64x3x3 .f32 := broadcastInDim S64x64x3x3 ![] bcast_S_S64x64x3x3 main_cst_5
  let main_v20 : IVec S64x64x3x3 1 := cmpf .olt main_v18 main_v19
  let main_v21 : FVec F S64x64x1x1 .f32 := Host.absf main_arg7
  let main_cst_6 : FVec F S_ .f32 := constant S_ .f32 0x7F800000#32
  let main_v22 : FVec F S64x64x1x1 .f32 := broadcastInDim S64x64x1x1 ![] bcast_S_S64x64x1x1 main_cst_6
  let main_v23 : IVec S64x64x1x1 1 := cmpf .olt main_v21 main_v22
  (main_v2, main_v5, main_v8, main_v11, main_v14, main_v17, main_v20, main_v23)

def fn {F : FTy → Type} [FloatOps F] (main_arg0 : FVec F S8x3x64x64 .f32) (main_arg1 : FVec F S512x64 .f32) (main_arg2 : FVec F S64x3x4x4 .f32) (main_arg3 : FVec F S64x64x4x4 .f32) (main_arg4 : FVec F S64x64x3x3 .f32) (main_arg5 : FVec F S64x64x1x1 .f32) (main_arg6 : FVec F S64x64x3x3 .f32) (main_arg7 : FVec F S64x64x1x1 .f32) (main_arg8 : FVec F S64x64x3x3 .f32) (main_arg9 : FVec F S64x64x1x1 .f32) (main_arg10 : FVec F S64x64x3x3 .f32) (main_arg11 : FVec F S64x64x1x1 .f32) (main_arg12 : FVec F S64x64x4x4 .f32) (main_arg13 : FVec F S64 .f32) (main_arg14 : FVec F S64x3x4x4 .f32) (main_arg15 : FVec F S3 .f32) : IVec S8x3x64x64 1 × IVec S512x64 1 × IVec S64x3x4x4 1 × IVec S64x64x4x4 1 × IVec S64x64x3x3 1 × IVec S64x64x1x1 1 × IVec S64x64x3x3 1 × IVec S64x64x1x1 1 :=
  let main_v0 : FVec F S8x3x64x64 .f32 := Host.absf main_arg0
  let main_cst : FVec F S_ .f32 := constant S_ .f32 0x7F800000#32
  let main_v1 : FVec F S8x3x64x64 .f32 := broadcastInDim S8x3x64x64 ![] bcast_S_S8x3x64x64 main_cst
  let main_v2 : IVec S8x3x64x64 1 := cmpf .olt main_v0 main_v1
  let main_v3 : FVec F S512x64 .f32 := Host.absf main_arg1
  let main_cst_0 : FVec F S_ .f32 := constant S_ .f32 0x7F800000#32
  let main_v4 : FVec F S512x64 .f32 := broadcastInDim S512x64 ![] bcast_S_S512x64 main_cst_0
  let main_v5 : IVec S512x64 1 := cmpf .olt main_v3 main_v4
  let main_v6 : FVec F S64x3x4x4 .f32 := Host.absf main_arg2
  let main_cst_1 : FVec F S_ .f32 := constant S_ .f32 0x7F800000#32
  let main_v7 : FVec F S64x3x4x4 .f32 := broadcastInDim S64x3x4x4 ![] bcast_S_S64x3x4x4 main_cst_1
  let main_v8 : IVec S64x3x4x4 1 := cmpf .olt main_v6 main_v7
  let main_v9 : FVec F S64x64x4x4 .f32 := Host.absf main_arg3
  let main_cst_2 : FVec F S_ .f32 := constant S_ .f32 0x7F800000#32
  let main_v10 : FVec F S64x64x4x4 .f32 := broadcastInDim S64x64x4x4 ![] bcast_S_S64x64x4x4 main_cst_2
  let main_v11 : IVec S64x64x4x4 1 := cmpf .olt main_v9 main_v10
  let main_v12 : FVec F S64x64x3x3 .f32 := Host.absf main_arg4
  let main_cst_3 : FVec F S_ .f32 := constant S_ .f32 0x7F800000#32
  let main_v13 : FVec F S64x64x3x3 .f32 := broadcastInDim S64x64x3x3 ![] bcast_S_S64x64x3x3 main_cst_3
  let main_v14 : IVec S64x64x3x3 1 := cmpf .olt main_v12 main_v13
  let main_v15 : FVec F S64x64x1x1 .f32 := Host.absf main_arg5
  let main_cst_4 : FVec F S_ .f32 := constant S_ .f32 0x7F800000#32
  let main_v16 : FVec F S64x64x1x1 .f32 := broadcastInDim S64x64x1x1 ![] bcast_S_S64x64x1x1 main_cst_4
  let main_v17 : IVec S64x64x1x1 1 := cmpf .olt main_v15 main_v16
  fn_part1 (F := F) main_arg6 main_arg7 main_v2 main_v5 main_v8 main_v11 main_v14 main_v17
-- ==== Kernel.lean ====
abbrev S8x3x64x64 : Shape := ⟨4, ![8, 3, 64, 64]⟩
abbrev S512x64 : Shape := ⟨2, ![512, 64]⟩
abbrev S64x3x4x4 : Shape := ⟨4, ![64, 3, 4, 4]⟩
abbrev S64x64x4x4 : Shape := ⟨4, ![64, 64, 4, 4]⟩
abbrev S64x64x3x3 : Shape := ⟨4, ![64, 64, 3, 3]⟩
abbrev S64x64x1x1 : Shape := ⟨4, ![64, 64, 1, 1]⟩
abbrev S64 : Shape := ⟨1, ![64]⟩
abbrev S3 : Shape := ⟨1, ![3]⟩
abbrev S4x4x3x64 : Shape := ⟨4, ![4, 4, 3, 64]⟩
abbrev S4x4x64x64 : Shape := ⟨4, ![4, 4, 64, 64]⟩
abbrev S3x3x64x64 : Shape := ⟨4, ![3, 3, 64, 64]⟩
abbrev S64x64 : Shape := ⟨2, ![64, 64]⟩
abbrev S4x4x64x3 : Shape := ⟨4, ![4, 4, 64, 3]⟩
abbrev S1x64 : Shape := ⟨2, ![1, 64]⟩
abbrev S1x3 : Shape := ⟨2, ![1, 3]⟩
abbrev S8x64x64x3 : Shape := ⟨4, ![8, 64, 64, 3]⟩
abbrev S_ : Shape := ⟨0, ![]⟩
abbrev S8x66x66x3 : Shape := ⟨4, ![8, 66, 66, 3]⟩
abbrev S8x33x2x33x2x3 : Shape := ⟨6, ![8, 33, 2, 33, 2, 3]⟩
abbrev S8x33x1x33x1x3 : Shape := ⟨6, ![8, 33, 1, 33, 1, 3]⟩
abbrev S8x33x33x3 : Shape := ⟨4, ![8, 33, 33, 3]⟩
abbrev S8x32x32x3 : Shape := ⟨4, ![8, 32, 32, 3]⟩
abbrev S8x32x32x48 : Shape := ⟨4, ![8, 32, 32, 48]⟩
abbrev S8192x48 : Shape := ⟨2, ![8192, 48]⟩
abbrev S48x64 : Shape := ⟨2, ![48, 64]⟩
abbrev S8192x64 : Shape := ⟨2, ![8192, 64]⟩
abbrev S8x32x32x64 : Shape := ⟨4, ![8, 32, 32, 64]⟩
abbrev S8x34x34x64 : Shape := ⟨4, ![8, 34, 34, 64]⟩
abbrev S8x17x2x17x2x64 : Shape := ⟨6, ![8, 17, 2, 17, 2, 64]⟩
abbrev S8x17x1x17x1x64 : Shape := ⟨6, ![8, 17, 1, 17, 1, 64]⟩
abbrev S8x17x17x64 : Shape := ⟨4, ![8, 17, 17, 64]⟩
abbrev S2048x64 : Shape := ⟨2, ![2048, 64]⟩
abbrev S8x16x16x64 : Shape := ⟨4, ![8, 16, 16, 64]⟩
abbrev S1x1x64x64 : Shape := ⟨4, ![1, 1, 64, 64]⟩
abbrev S8x18x18x64 : Shape := ⟨4, ![8, 18, 18, 64]⟩
abbrev S64x512 : Shape := ⟨2, ![64, 512]⟩
abbrev S512 : Shape := ⟨1, ![512]⟩
abbrev S1x512 : Shape := ⟨2, ![1, 512]⟩
abbrev S1x1 : Shape := ⟨2, ![1, 1]⟩
abbrev S2048x512 : Shape := ⟨2, ![2048, 512]⟩
abbrev S2048 : Shape := ⟨1, ![2048]⟩
abbrev S2048x1 : Shape := ⟨2, ![2048, 1]⟩
abbrev S1x2048x64 : Shape := ⟨3, ![1, 2048, 64]⟩
abbrev S1 : Shape := ⟨1, ![1]⟩
abbrev S1x1x1 : Shape := ⟨3, ![1, 1, 1]⟩
abbrev S4x2048x64 : Shape := ⟨3, ![4, 2048, 64]⟩
abbrev S2x2x8x16x16x64 : Shape := ⟨6, ![2, 2, 8, 16, 16, 64]⟩
abbrev S8x16x2x16x2x64 : Shape := ⟨6, ![8, 16, 2, 16, 2, 64]⟩
abbrev S8192x3 : Shape := ⟨2, ![8192, 3]⟩
abbrev S1x1x64x3 : Shape := ⟨4, ![1, 1, 64, 3]⟩
abbrev S64x3 : Shape := ⟨2, ![64, 3]⟩
abbrev S1x8192x3 : Shape := ⟨3, ![1, 8192, 3]⟩
abbrev S4x8192x3 : Shape := ⟨3, ![4, 8192, 3]⟩
abbrev S2x2x8x32x32x3 : Shape := ⟨6, ![2, 2, 8, 32, 32, 3]⟩
abbrev S8x32x2x32x2x3 : Shape := ⟨6, ![8, 32, 2, 32, 2, 3]⟩

abbrev nBuf : Space → Nat
  | .hbm => 143
  | .vmem => 45
  | .smem => 0
  | _ => 0

abbrev hbmTy0_0 (i : Nat) : BufTy := match i % 128 with
  | 0 => ⟨S8x3x64x64, .f32⟩
  | 1 => ⟨S512x64, .f32⟩
  | 2 => ⟨S64x3x4x4, .f32⟩
  | 3 => ⟨S64x64x4x4, .f32⟩
  | 4 => ⟨S64x64x3x3, .f32⟩
  | 5 => ⟨S64x64x1x1, .f32⟩
  | 6 => ⟨S64x64x3x3, .f32⟩
  | 7 => ⟨S64x64x1x1, .f32⟩
  | 8 => ⟨S64x64x3x3, .f32⟩
  | 9 => ⟨S64x64x1x1, .f32⟩
  | 10 => ⟨S64x64x3x3, .f32⟩
  | 11 => ⟨S64x64x1x1, .f32⟩
  | 12 => ⟨S64x64x4x4, .f32⟩
  | 13 => ⟨S64, .f32⟩
  | 14 => ⟨S64x3x4x4, .f32⟩
  | 15 => ⟨S3, .f32⟩
  | 16 => ⟨S4x4x3x64, .f32⟩
  | 17 => ⟨S4x4x64x64, .f32⟩
  | 18 => ⟨S3x3x64x64, .f32⟩
  | 19 => ⟨S64x64, .f32⟩
  | 20 => ⟨S64x64, .f32⟩
  | 21 => ⟨S3x3x64x64, .f32⟩
  | 22 => ⟨S64x64, .f32⟩
  | 23 => ⟨S64x64, .f32⟩
  | 24 => ⟨S3x3x64x64, .f32⟩
  | 25 => ⟨S64x64, .f32⟩
  | 26 => ⟨S64x64, .f32⟩
  | 27 => ⟨S3x3x64x64, .f32⟩
  | 28 => ⟨S64x64, .f32⟩
  | 29 => ⟨S64x64, .f32⟩
  | 30 => ⟨S64x64x4x4, .f32⟩
  | 31 => ⟨S4x4x64x64, .f32⟩
  | 32 => ⟨S64x3x4x4, .f32⟩
  | 33 => ⟨S4x4x64x3, .f32⟩
  | 34 => ⟨S1x64, .f32⟩
  | 35 => ⟨S1x3, .f32⟩
  | 36 => ⟨S8x64x64x3, .f32⟩
  | 37 => ⟨S_, .i32⟩
  | 38 => ⟨S_, .f32⟩
  | 39 => ⟨S8x66x66x3, .f32⟩
  | 40 => ⟨S8x33x2x33x2x3, .f32⟩
  | 41 => ⟨S8x33x1x33x1x3, .f32⟩
  | 42 => ⟨S8x33x33x3, .f32⟩
  | 43 => ⟨S8x33x1x33x1x3, .f32⟩
  | 44 => ⟨S8x33x33x3, .f32⟩
  | 45 => ⟨S8x33x1x33x1x3, .f32⟩
  | 46 => ⟨S8x33x33x3, .f32⟩
  | 47 => ⟨S8x33x1x33x1x3, .f32⟩
  | 48 => ⟨S8x33x33x3, .f32⟩
  | 49 => ⟨S8x32x32x3, .f32⟩
  | 50 => ⟨S8x32x32x3, .f32⟩
  | 51 => ⟨S8x32x32x3, .f32⟩
  | 52 => ⟨S8x32x32x3, .f32⟩
  | 53 => ⟨S8x32x32x3, .f32⟩
  | 54 => ⟨S8x32x32x3, .f32⟩
  | 55 => ⟨S8x32x32x3, .f32⟩
  | 56 => ⟨S8x32x32x3, .f32⟩
  | 57 => ⟨S8x32x32x3, .f32⟩
  | 58 => ⟨S8x32x32x3, .f32⟩
  | 59 => ⟨S8x32x32x3, .f32⟩
  | 60 => ⟨S8x32x32x3, .f32⟩
  | 61 => ⟨S8x32x32x3, .f32⟩
  | 62 => ⟨S8x32x32x3, .f32⟩
  | 63 => ⟨S8x32x32x3, .f32⟩
  | 64 => ⟨S8x32x32x3, .f32⟩
  | 65 => ⟨S8x32x32x48, .f32⟩
  | 66 => ⟨S8192x48, .f32⟩
  | 67 => ⟨S48x64, .f32⟩
  | 68 => ⟨S8192x64, .f32⟩
  | 69 => ⟨S8x32x32x64, .f32⟩
  | 70 => ⟨S_, .i32⟩
  | 71 => ⟨S_, .f32⟩
  | 72 => ⟨S8x34x34x64, .f32⟩
  | 73 => ⟨S8x17x2x17x2x64, .f32⟩
  | 74 => ⟨S8x17x1x17x1x64, .f32⟩
  | 75 => ⟨S8x17x17x64, .f32⟩
  | 76 => ⟨S8x17x1x17x1x64, .f32⟩
  | 77 => ⟨S8x17x17x64, .f32⟩
  | 78 => ⟨S8x17x1x17x1x64, .f32⟩
  | 79 => ⟨S8x17x17x64, .f32⟩
  | 80 => ⟨S8x17x1x17x1x64, .f32⟩
  | 81 => ⟨S8x17x17x64, .f32⟩
  | 82 => ⟨S2048x64, .f32⟩
  | 83 => ⟨S8x16x16x64, .f32⟩
  | 84 => ⟨S_, .i32⟩
  | 85 => ⟨S_, .f32⟩
  | 86 => ⟨S8x18x18x64, .f32⟩
  | 87 => ⟨S2048x64, .f32⟩
  | 88 => ⟨S8x16x16x64, .f32⟩
  | 89 => ⟨S_, .i32⟩
  | 90 => ⟨S_, .f32⟩
  | 91 => ⟨S8x18x18x64, .f32⟩
  | 92 => ⟨S2048x64, .f32⟩
  | 93 => ⟨S64x512, .f32⟩
  | 94 => ⟨S512x64, .f32⟩
  | 95 => ⟨S_, .f32⟩
  | 96 => ⟨S512, .f32⟩
  | 97 => ⟨S1x512, .f32⟩
  | 98 => ⟨S2048x64, .f32⟩
  | 99 => ⟨S1x1, .f32⟩
  | 100 => ⟨S8x16x16x64, .f32⟩
  | 101 => ⟨S_, .i32⟩
  | 102 => ⟨S_, .f32⟩
  | 103 => ⟨S8x18x18x64, .f32⟩
  | 104 => ⟨S2048x64, .f32⟩
  | 105 => ⟨S8x16x16x64, .f32⟩
  | 106 => ⟨S_, .i32⟩
  | 107 => ⟨S_, .f32⟩
  | 108 => ⟨S8x18x18x64, .f32⟩
  | 109 => ⟨S2048x64, .f32⟩
  | 110 => ⟨S8x16x16x64, .f32⟩
  | 111 => ⟨S_, .i32⟩
  | 112 => ⟨S_, .f32⟩
  | 113 => ⟨S8x18x18x64, .f32⟩
  | 114 => ⟨S2048x64, .f32⟩
  | 115 => ⟨S2048x64, .f32⟩
  | 116 => ⟨S2048x64, .f32⟩
  | 117 => ⟨S2048x64, .f32⟩
  | 118 => ⟨S1x2048x64, .f32⟩
  | 119 => ⟨S1x2048x64, .f32⟩
  | 120 => ⟨S1x2048x64, .f32⟩
  | 121 => ⟨S1x2048x64, .f32⟩
  | 122 => ⟨S4x2048x64, .f32⟩
  | 123 => ⟨S2x2x8x16x16x64, .f32⟩
  | 124 => ⟨S8x16x2x16x2x64, .f32⟩
  | 125 => ⟨S8x32x32x64, .f32⟩
  | 126 => ⟨S_, .i32⟩
  | 127 => ⟨S_, .f32⟩
  | _ => ⟨S8x3x64x64, .f32⟩

abbrev hbmTy0_1 (i : Nat) : BufTy := match i % 128 with
  | 0 => ⟨S8x34x34x64, .f32⟩
  | 1 => ⟨S8192x3, .f32⟩
  | 2 => ⟨S8192x3, .f32⟩
  | 3 => ⟨S8192x3, .f32⟩
  | 4 => ⟨S8192x3, .f32⟩
  | 5 => ⟨S1x8192x3, .f32⟩
  | 6 => ⟨S1x8192x3, .f32⟩
  | 7 => ⟨S1x8192x3, .f32⟩
  | 8 => ⟨S1x8192x3, .f32⟩
  | 9 => ⟨S4x8192x3, .f32⟩
  | 10 => ⟨S2x2x8x32x32x3, .f32⟩
  | 11 => ⟨S8x32x2x32x2x3, .f32⟩
  | 12 => ⟨S8x64x64x3, .f32⟩
  | 13 => ⟨S8x3x64x64, .f32⟩
  | 14 => ⟨S_, .f32⟩
  | _ => ⟨S8x3x64x64, .f32⟩

abbrev hbmTy (i : Nat) : BufTy := match i / 128 with
  | 0 => hbmTy0_0 i
  | 1 => hbmTy0_1 i
  | _ => ⟨S8x3x64x64, .f32⟩

abbrev bufTy : (tb : Table) → Fin (tcTables nBuf tb) → BufTy
  | .hbm, ⟨i, _⟩ => hbmTy i
  | .local _ .vmem, ⟨0, _⟩ => ⟨S8192x48, .f32⟩
  | .local _ .vmem, ⟨1, _⟩ => ⟨S48x64, .f32⟩
  | .local _ .vmem, ⟨2, _⟩ => ⟨S8192x64, .f32⟩
  | .local _ .vmem, ⟨3, _⟩ => ⟨S8x17x17x64, .f32⟩
  | .local _ .vmem, ⟨4, _⟩ => ⟨S8x17x17x64, .f32⟩
  | .local _ .vmem, ⟨5, _⟩ => ⟨S8x17x17x64, .f32⟩
  | .local _ .vmem, ⟨6, _⟩ => ⟨S8x17x17x64, .f32⟩
  | .local _ .vmem, ⟨7, _⟩ => ⟨S4x4x64x64, .f32⟩
  | .local _ .vmem, ⟨8, _⟩ => ⟨S2048x64, .f32⟩
  | .local _ .vmem, ⟨9, _⟩ => ⟨S8x18x18x64, .f32⟩
  | .local _ .vmem, ⟨10, _⟩ => ⟨S3x3x64x64, .f32⟩
  | .local _ .vmem, ⟨11, _⟩ => ⟨S64x64, .f32⟩
  | .local _ .vmem, ⟨12, _⟩ => ⟨S2048x64, .f32⟩
  | .local _ .vmem, ⟨13, _⟩ => ⟨S8x18x18x64, .f32⟩
  | .local _ .vmem, ⟨14, _⟩ => ⟨S3x3x64x64, .f32⟩
  | .local _ .vmem, ⟨15, _⟩ => ⟨S64x64, .f32⟩
  | .local _ .vmem, ⟨16, _⟩ => ⟨S2048x64, .f32⟩
  | .local _ .vmem, ⟨17, _⟩ => ⟨S2048x64, .f32⟩
  | .local _ .vmem, ⟨18, _⟩ => ⟨S512x64, .f32⟩
  | .local _ .vmem, ⟨19, _⟩ => ⟨S64x512, .f32⟩
  | .local _ .vmem, ⟨20, _⟩ => ⟨S1x512, .f32⟩
  | .local _ .vmem, ⟨21, _⟩ => ⟨S2048x64, .f32⟩
  | .local _ .vmem, ⟨22, _⟩ => ⟨S1x1, .f32⟩
  | .local _ .vmem, ⟨23, _⟩ => ⟨S8x18x18x64, .f32⟩
  | .local _ .vmem, ⟨24, _⟩ => ⟨S3x3x64x64, .f32⟩
  | .local _ .vmem, ⟨25, _⟩ => ⟨S64x64, .f32⟩
  | .local _ .vmem, ⟨26, _⟩ => ⟨S2048x64, .f32⟩
  | .local _ .vmem, ⟨27, _⟩ => ⟨S8x18x18x64, .f32⟩
  | .local _ .vmem, ⟨28, _⟩ => ⟨S3x3x64x64, .f32⟩
  | .local _ .vmem, ⟨29, _⟩ => ⟨S64x64, .f32⟩
  | .local _ .vmem, ⟨30, _⟩ => ⟨S2048x64, .f32⟩
  | .local _ .vmem, ⟨31, _⟩ => ⟨S8x18x18x64, .f32⟩
  | .local _ .vmem, ⟨32, _⟩ => ⟨S4x4x64x64, .f32⟩
  | .local _ .vmem, ⟨33, _⟩ => ⟨S1x64, .f32⟩
  | .local _ .vmem, ⟨34, _⟩ => ⟨S2048x64, .f32⟩
  | .local _ .vmem, ⟨35, _⟩ => ⟨S2048x64, .f32⟩
  | .local _ .vmem, ⟨36, _⟩ => ⟨S2048x64, .f32⟩
  | .local _ .vmem, ⟨37, _⟩ => ⟨S2048x64, .f32⟩
  | .local _ .vmem, ⟨38, _⟩ => ⟨S8x34x34x64, .f32⟩
  | .local _ .vmem, ⟨39, _⟩ => ⟨S4x4x64x3, .f32⟩
  | .local _ .vmem, ⟨40, _⟩ => ⟨S1x3, .f32⟩
  | .local _ .vmem, ⟨41, _⟩ => ⟨S8192x3, .f32⟩
  | .local _ .vmem, ⟨42, _⟩ => ⟨S8192x3, .f32⟩
  | .local _ .vmem, ⟨43, _⟩ => ⟨S8192x3, .f32⟩
  | .local _ .vmem, ⟨44, _⟩ => ⟨S8192x3, .f32⟩
  | _, _ => ⟨S8x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_call0_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_0 : Ref sig .tc := ⟨.hbm, 70, rfl⟩
abbrev main_call1_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_1 : Ref sig .tc := ⟨.hbm, 84, rfl⟩
abbrev main_call2_v0 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_2 : Ref sig .tc := ⟨.hbm, 89, rfl⟩
abbrev main_call3_v0 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst : Ref sig .tc := ⟨.hbm, 95, rfl⟩
abbrev main_v71 : Ref sig .tc := ⟨.hbm, 96, rfl⟩
abbrev main_v72 : Ref sig .tc := ⟨.hbm, 97, rfl⟩
abbrev main_v73_0 : Ref sig .tc := ⟨.hbm, 98, rfl⟩
abbrev main_v73_1 : Ref sig .tc := ⟨.hbm, 99, rfl⟩
abbrev main_v74 : Ref sig .tc := ⟨.hbm, 100, rfl⟩
abbrev main_c_3 : Ref sig .tc := ⟨.hbm, 101, rfl⟩
abbrev main_call4_v0 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_4 : Ref sig .tc := ⟨.hbm, 106, rfl⟩
abbrev main_call5_v0 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_5 : Ref sig .tc := ⟨.hbm, 111, rfl⟩
abbrev main_call6_v0 : Ref sig .tc := ⟨.hbm, 112, rfl⟩
abbrev main_v81 : Ref sig .tc := ⟨.hbm, 113, rfl⟩
abbrev main_v82_0 : Ref sig .tc := ⟨.hbm, 114, rfl⟩
abbrev main_v82_1 : Ref sig .tc := ⟨.hbm, 115, rfl⟩
abbrev main_v82_2 : Ref sig .tc := ⟨.hbm, 116, rfl⟩
abbrev main_v82_3 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_6 : Ref sig .tc := ⟨.hbm, 126, rfl⟩
abbrev main_call7_v0 : Ref sig .tc := ⟨.hbm, 127, rfl⟩
abbrev main_v91 : Ref sig .tc := ⟨.hbm, 128, rfl⟩
abbrev main_v92_0 : Ref sig .tc := ⟨.hbm, 129, rfl⟩
abbrev main_v92_1 : Ref sig .tc := ⟨.hbm, 130, rfl⟩
abbrev main_v92_2 : Ref sig .tc := ⟨.hbm, 131, rfl⟩
abbrev main_v92_3 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc4_stg0_0 : Ref sig .tc := ⟨.vmem, 17, rfl⟩
abbrev cc4_stg1_0 : Ref sig .tc := ⟨.vmem, 18, rfl⟩
abbrev cc4_stg2_0 : Ref sig .tc := ⟨.vmem, 19, rfl⟩
abbrev cc4_stg3_0 : Ref sig .tc := ⟨.vmem, 20, rfl⟩
abbrev cc4_stg4_0 : Ref sig .tc := ⟨.vmem, 21, rfl⟩
abbrev cc4_stg5_0 : Ref sig .tc := ⟨.vmem, 22, rfl⟩
abbrev cc5_stg0_0 : Ref sig .tc := ⟨.vmem, 23, rfl⟩
abbrev cc5_stg1_0 : Ref sig .tc := ⟨.vmem, 24, rfl⟩
abbrev cc5_stg2_0 : Ref sig .tc := ⟨.vmem, 25, rfl⟩
abbrev cc5_stg3_0 : Ref sig .tc := ⟨.vmem, 26, rfl⟩
abbrev cc6_stg0_0 : Ref sig .tc := ⟨.vmem, 27, rfl⟩
abbrev cc6_stg1_0 : Ref sig .tc := ⟨.vmem, 28, rfl⟩
abbrev cc6_stg2_0 : Ref sig .tc := ⟨.vmem, 29, rfl⟩
abbrev cc6_stg3_0 : Ref sig .tc := ⟨.vmem, 30, rfl⟩
abbrev cc7_stg0_0 : Ref sig .tc := ⟨.vmem, 31, rfl⟩
abbrev cc7_stg1_0 : Ref sig .tc := ⟨.vmem, 32, rfl⟩
abbrev cc7_stg2_0 : Ref sig .tc := ⟨.vmem, 33, rfl⟩
abbrev cc7_stg3_0 : Ref sig .tc := ⟨.vmem, 34, rfl⟩
abbrev cc7_stg4_0 : Ref sig .tc := ⟨.vmem, 35, rfl⟩
abbrev cc7_stg5_0 : Ref sig .tc := ⟨.vmem, 36, rfl⟩
abbrev cc7_stg6_0 : Ref sig .tc := ⟨.vmem, 37, rfl⟩
abbrev cc8_stg0_0 : Ref sig .tc := ⟨.vmem, 38, rfl⟩
abbrev cc8_stg1_0 : Ref sig .tc := ⟨.vmem, 39, rfl⟩
abbrev cc8_stg2_0 : Ref sig .tc := ⟨.vmem, 40, rfl⟩
abbrev cc8_stg3_0 : Ref sig .tc := ⟨.vmem, 41, rfl⟩
abbrev cc8_stg4_0 : Ref sig .tc := ⟨.vmem, 42, rfl⟩
abbrev cc8_stg5_0 : Ref sig .tc := ⟨.vmem, 43, rfl⟩
abbrev cc8_stg6_0 : Ref sig .tc := ⟨.vmem, 44, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc2_sem0_0 : DmaSem sig := 9
abbrev cc2_sem1_0 : DmaSem sig := 10
abbrev cc2_sem2_0 : DmaSem sig := 11
abbrev cc2_sem3_0 : DmaSem sig := 12
abbrev cc3_sem0_0 : DmaSem sig := 13
abbrev cc3_sem1_0 : DmaSem sig := 14
abbrev cc3_sem2_0 : DmaSem sig := 15
abbrev cc3_sem3_0 : DmaSem sig := 16
abbrev cc4_sem0_0 : DmaSem sig := 17
abbrev cc4_sem1_0 : DmaSem sig := 18
abbrev cc4_sem2_0 : DmaSem sig := 19
abbrev cc4_sem3_0 : DmaSem sig := 20
abbrev cc4_sem4_0 : DmaSem sig := 21
abbrev cc4_sem5_0 : DmaSem sig := 22
abbrev cc5_sem0_0 : DmaSem sig := 23
abbrev cc5_sem1_0 : DmaSem sig := 24
abbrev cc5_sem2_0 : DmaSem sig := 25
abbrev cc5_sem3_0 : DmaSem sig := 26
abbrev cc6_sem0_0 : DmaSem sig := 27
abbrev cc6_sem1_0 : DmaSem sig := 28
abbrev cc6_sem2_0 : DmaSem sig := 29
abbrev cc6_sem3_0 : DmaSem sig := 30
abbrev cc7_sem0_0 : DmaSem sig := 31
abbrev cc7_sem1_0 : DmaSem sig := 32
abbrev cc7_sem2_0 : DmaSem sig := 33
abbrev cc7_sem3_0 : DmaSem sig := 34
abbrev cc7_sem4_0 : DmaSem sig := 35
abbrev cc7_sem5_0 : DmaSem sig := 36
abbrev cc7_sem6_0 : DmaSem sig := 37
abbrev cc8_sem0_0 : DmaSem sig := 38
abbrev cc8_sem1_0 : DmaSem sig := 39
abbrev cc8_sem2_0 : DmaSem sig := 40
abbrev cc8_sem3_0 : DmaSem sig := 41
abbrev cc8_sem4_0 : DmaSem sig := 42
abbrev cc8_sem5_0 : DmaSem sig := 43
abbrev cc8_sem6_0 : DmaSem sig := 44

abbrev nD : Nat := 1
abbrev τ : Topo := Topo.v7x

variable {F : FTy → Type} [FloatOps F]

abbrev grid0 : Pipeline.Grid := .none

abbrev stage0_0 : Fin 1 → Memref sig .tc .vmem S8192x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S8x17x17x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x17x17x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x17x17x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x17x17x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4x4x64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2048x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := .none

abbrev stage2_0 : Fin 1 → Memref sig .tc .vmem S8x18x18x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S3x3x64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S2048x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := .none

abbrev stage3_0 : Fin 1 → Memref sig .tc .vmem S8x18x18x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S3x3x64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S2048x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev grid4 : Pipeline.Grid := .none

abbrev stage4_0 : Fin 1 → Memref sig .tc .vmem S2048x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S512x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S64x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S2048x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev grid5 : Pipeline.Grid := .none

abbrev stage5_0 : Fin 1 → Memref sig .tc .vmem S8x18x18x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S3x3x64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S2048x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev grid6 : Pipeline.Grid := .none

abbrev stage6_0 : Fin 1 → Memref sig .tc .vmem S8x18x18x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S3x3x64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S2048x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev grid7 : Pipeline.Grid := .none

abbrev stage7_0 : Fin 1 → Memref sig .tc .vmem S8x18x18x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S4x4x64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S2048x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S2048x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S2048x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev stage7_6 : Fin 1 → Memref sig .tc .vmem S2048x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))

abbrev grid8 : Pipeline.Grid := .none

abbrev stage8_0 : Fin 1 → Memref sig .tc .vmem S8x34x34x64 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S4x4x64x3 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S1x3 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S8192x3 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))

abbrev stage8_4 : Fin 1 → Memref sig .tc .vmem S8192x3 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))

abbrev stage8_5 : Fin 1 → Memref sig .tc .vmem S8192x3 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))

abbrev stage8_6 : Fin 1 → Memref sig .tc .vmem S8192x3 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
-- ==== ReferenceIdeal.lean ====
abbrev S8x3x64x64 : Shape := ⟨4, ![8, 3, 64, 64]⟩
abbrev S512x64 : Shape := ⟨2, ![512, 64]⟩
abbrev S64x3x4x4 : Shape := ⟨4, ![64, 3, 4, 4]⟩
abbrev S64x64x4x4 : Shape := ⟨4, ![64, 64, 4, 4]⟩
abbrev S64x64x3x3 : Shape := ⟨4, ![64, 64, 3, 3]⟩
abbrev S64x64x1x1 : Shape := ⟨4, ![64, 64, 1, 1]⟩
abbrev S64 : Shape := ⟨1, ![64]⟩
abbrev S3 : Shape := ⟨1, ![3]⟩
abbrev S64x1x1 : Shape := ⟨3, ![64, 1, 1]⟩
abbrev S32 : Shape := ⟨1, ![32]⟩
abbrev S1x32x1 : Shape := ⟨3, ![1, 32, 1]⟩
abbrev S4 : Shape := ⟨1, ![4]⟩
abbrev S1x1x4 : Shape := ⟨3, ![1, 1, 4]⟩
abbrev S_ : Shape := ⟨0, ![]⟩
abbrev S1x32x4 : Shape := ⟨3, ![1, 32, 4]⟩
abbrev S64x32x4 : Shape := ⟨3, ![64, 32, 4]⟩
abbrev S8x3x64x32x4 : Shape := ⟨5, ![8, 3, 64, 32, 4]⟩
abbrev S8x3x32x4x32x4 : Shape := ⟨6, ![8, 3, 32, 4, 32, 4]⟩
abbrev S64x8x32x32 : Shape := ⟨4, ![64, 8, 32, 32]⟩
abbrev S8x64x32x32 : Shape := ⟨4, ![8, 64, 32, 32]⟩
abbrev S32x1x1 : Shape := ⟨3, ![32, 1, 1]⟩
abbrev S16 : Shape := ⟨1, ![16]⟩
abbrev S1x16x1 : Shape := ⟨3, ![1, 16, 1]⟩
abbrev S1x16x4 : Shape := ⟨3, ![1, 16, 4]⟩
abbrev S32x16x4 : Shape := ⟨3, ![32, 16, 4]⟩
abbrev S8x64x32x16x4 : Shape := ⟨5, ![8, 64, 32, 16, 4]⟩
abbrev S8x64x16x4x16x4 : Shape := ⟨6, ![8, 64, 16, 4, 16, 4]⟩
abbrev S64x8x16x16 : Shape := ⟨4, ![64, 8, 16, 16]⟩
abbrev S8x64x16x16 : Shape := ⟨4, ![8, 64, 16, 16]⟩
abbrev S16x1x1 : Shape := ⟨3, ![16, 1, 1]⟩
abbrev S1x1x3 : Shape := ⟨3, ![1, 1, 3]⟩
abbrev S1x16x3 : Shape := ⟨3, ![1, 16, 3]⟩
abbrev S16x16x3 : Shape := ⟨3, ![16, 16, 3]⟩
abbrev S8x64x16x16x3 : Shape := ⟨5, ![8, 64, 16, 16, 3]⟩
abbrev S8x64x16x3x16x3 : Shape := ⟨6, ![8, 64, 16, 3, 16, 3]⟩
abbrev S64x64 : Shape := ⟨2, ![64, 64]⟩
abbrev S8x16x16x64 : Shape := ⟨4, ![8, 16, 16, 64]⟩
abbrev S8x16x16x1x64 : Shape := ⟨5, ![8, 16, 16, 1, 64]⟩
abbrev S8x16x16x512x64 : Shape := ⟨5, ![8, 16, 16, 512, 64]⟩
abbrev S1x1x1x512x64 : Shape := ⟨5, ![1, 1, 1, 512, 64]⟩
abbrev S8x16x16x512 : Shape := ⟨4, ![8, 16, 16, 512]⟩
abbrev S8x16x16 : Shape := ⟨3, ![8, 16, 16]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S2048x64 : Shape := ⟨2, ![2048, 64]⟩
abbrev S8x64x16x32x4 : Shape := ⟨5, ![8, 64, 16, 32, 4]⟩
abbrev S8x64x32x4x32x4 : Shape := ⟨6, ![8, 64, 32, 4, 32, 4]⟩
abbrev S1x64x1x1 : Shape := ⟨4, ![1, 64, 1, 1]⟩
abbrev S8x64x32x64x4 : Shape := ⟨5, ![8, 64, 32, 64, 4]⟩
abbrev S8x64x64x4x64x4 : Shape := ⟨6, ![8, 64, 64, 4, 64, 4]⟩
abbrev S3x8x64x64 : Shape := ⟨4, ![3, 8, 64, 64]⟩
abbrev S1x3x1x1 : Shape := ⟨4, ![1, 3, 1, 1]⟩
abbrev S512x8x16x16x64 : Shape := ⟨5, ![512, 8, 16, 16, 64]⟩
abbrev S1x8x16x16x64 : Shape := ⟨5, ![1, 8, 16, 16, 64]⟩
abbrev S512x8x16x16 : Shape := ⟨4, ![512, 8, 16, 16]⟩

abbrev nBuf : Space → Nat
  | .hbm => 313
  | .vmem => 0
  | .smem => 0
  | _ => 0

abbrev hbmTy0_0 (i : Nat) : BufTy := match i % 128 with
  | 0 => ⟨S8x3x64x64, .f32⟩
  | 1 => ⟨S512x64, .f32⟩
  | 2 => ⟨S64x3x4x4, .f32⟩
  | 3 => ⟨S64x64x4x4, .f32⟩
  | 4 => ⟨S64x64x3x3, .f32⟩
  | 5 => ⟨S64x64x1x1, .f32⟩
  | 6 => ⟨S64x64x3x3, .f32⟩
  | 7 => ⟨S64x64x1x1, .f32⟩
  | 8 => ⟨S64x64x3x3, .f32⟩
  | 9 => ⟨S64x64x1x1, .f32⟩
  | 10 => ⟨S64x64x3x3, .f32⟩
  | 11 => ⟨S64x64x1x1, .f32⟩
  | 12 => ⟨S64x64x4x4, .f32⟩
  | 13 => ⟨S64, .f32⟩
  | 14 => ⟨S64x3x4x4, .f32⟩
  | 15 => ⟨S3, .f32⟩
  | 16 => ⟨S64, .i32⟩
  | 17 => ⟨S64x1x1, .i32⟩
  | 18 => ⟨S32, .i32⟩
  | 19 => ⟨S1x32x1, .i32⟩
  | 20 => ⟨S4, .i32⟩
  | 21 => ⟨S1x1x4, .i32⟩
  | 22 => ⟨S_, .i32⟩
  | 23 => ⟨S1x32x1, .i32⟩
  | 24 => ⟨S1x32x1, .i32⟩
  | 25 => ⟨S1x32x4, .i32⟩
  | 26 => ⟨S1x32x4, .i32⟩
  | 27 => ⟨S1x32x4, .i32⟩
  | 28 => ⟨S_, .i32⟩
  | 29 => ⟨S1x32x4, .i32⟩
  | 30 => ⟨S1x32x4, .i32⟩
  | 31 => ⟨S64x32x4, .i32⟩
  | 32 => ⟨S64x32x4, .i32⟩
  | 33 => ⟨S64x32x4, .i1⟩
  | 34 => ⟨S64x32x4, .f32⟩
  | 35 => ⟨S8x3x64x32x4, .f32⟩
  | 36 => ⟨S8x3x32x4x32x4, .f32⟩
  | 37 => ⟨S64x8x32x32, .f32⟩
  | 38 => ⟨S8x64x32x32, .f32⟩
  | 39 => ⟨S_, .f32⟩
  | 40 => ⟨S8x64x32x32, .f32⟩
  | 41 => ⟨S8x64x32x32, .f32⟩
  | 42 => ⟨S32, .i32⟩
  | 43 => ⟨S32x1x1, .i32⟩
  | 44 => ⟨S16, .i32⟩
  | 45 => ⟨S1x16x1, .i32⟩
  | 46 => ⟨S4, .i32⟩
  | 47 => ⟨S1x1x4, .i32⟩
  | 48 => ⟨S_, .i32⟩
  | 49 => ⟨S1x16x1, .i32⟩
  | 50 => ⟨S1x16x1, .i32⟩
  | 51 => ⟨S1x16x4, .i32⟩
  | 52 => ⟨S1x16x4, .i32⟩
  | 53 => ⟨S1x16x4, .i32⟩
  | 54 => ⟨S_, .i32⟩
  | 55 => ⟨S1x16x4, .i32⟩
  | 56 => ⟨S1x16x4, .i32⟩
  | 57 => ⟨S32x16x4, .i32⟩
  | 58 => ⟨S32x16x4, .i32⟩
  | 59 => ⟨S32x16x4, .i1⟩
  | 60 => ⟨S32x16x4, .f32⟩
  | 61 => ⟨S8x64x32x16x4, .f32⟩
  | 62 => ⟨S8x64x16x4x16x4, .f32⟩
  | 63 => ⟨S64x8x16x16, .f32⟩
  | 64 => ⟨S8x64x16x16, .f32⟩
  | 65 => ⟨S_, .f32⟩
  | 66 => ⟨S8x64x16x16, .f32⟩
  | 67 => ⟨S8x64x16x16, .f32⟩
  | 68 => ⟨S16, .i32⟩
  | 69 => ⟨S16x1x1, .i32⟩
  | 70 => ⟨S16, .i32⟩
  | 71 => ⟨S1x16x1, .i32⟩
  | 72 => ⟨S3, .i32⟩
  | 73 => ⟨S1x1x3, .i32⟩
  | 74 => ⟨S_, .i32⟩
  | 75 => ⟨S1x16x1, .i32⟩
  | 76 => ⟨S1x16x1, .i32⟩
  | 77 => ⟨S1x16x3, .i32⟩
  | 78 => ⟨S1x16x3, .i32⟩
  | 79 => ⟨S1x16x3, .i32⟩
  | 80 => ⟨S_, .i32⟩
  | 81 => ⟨S1x16x3, .i32⟩
  | 82 => ⟨S1x16x3, .i32⟩
  | 83 => ⟨S16x16x3, .i32⟩
  | 84 => ⟨S16x16x3, .i32⟩
  | 85 => ⟨S16x16x3, .i1⟩
  | 86 => ⟨S16x16x3, .f32⟩
  | 87 => ⟨S8x64x16x16x3, .f32⟩
  | 88 => ⟨S8x64x16x3x16x3, .f32⟩
  | 89 => ⟨S64x8x16x16, .f32⟩
  | 90 => ⟨S8x64x16x16, .f32⟩
  | 91 => ⟨S_, .f32⟩
  | 92 => ⟨S8x64x16x16, .f32⟩
  | 93 => ⟨S8x64x16x16, .f32⟩
  | 94 => ⟨S64x64, .f32⟩
  | 95 => ⟨S64x8x16x16, .f32⟩
  | 96 => ⟨S8x64x16x16, .f32⟩
  | 97 => ⟨S8x64x16x16, .f32⟩
  | 98 => ⟨S16, .i32⟩
  | 99 => ⟨S16x1x1, .i32⟩
  | 100 => ⟨S16, .i32⟩
  | 101 => ⟨S1x16x1, .i32⟩
  | 102 => ⟨S3, .i32⟩
  | 103 => ⟨S1x1x3, .i32⟩
  | 104 => ⟨S_, .i32⟩
  | 105 => ⟨S1x16x1, .i32⟩
  | 106 => ⟨S1x16x1, .i32⟩
  | 107 => ⟨S1x16x3, .i32⟩
  | 108 => ⟨S1x16x3, .i32⟩
  | 109 => ⟨S1x16x3, .i32⟩
  | 110 => ⟨S_, .i32⟩
  | 111 => ⟨S1x16x3, .i32⟩
  | 112 => ⟨S1x16x3, .i32⟩
  | 113 => ⟨S16x16x3, .i32⟩
  | 114 => ⟨S16x16x3, .i32⟩
  | 115 => ⟨S16x16x3, .i1⟩
  | 116 => ⟨S16x16x3, .f32⟩
  | 117 => ⟨S8x64x16x16x3, .f32⟩
  | 118 => ⟨S8x64x16x3x16x3, .f32⟩
  | 119 => ⟨S64x8x16x16, .f32⟩
  | 120 => ⟨S8x64x16x16, .f32⟩
  | 121 => ⟨S_, .f32⟩
  | 122 => ⟨S8x64x16x16, .f32⟩
  | 123 => ⟨S8x64x16x16, .f32⟩
  | 124 => ⟨S64x64, .f32⟩
  | 125 => ⟨S64x8x16x16, .f32⟩
  | 126 => ⟨S8x64x16x16, .f32⟩
  | 127 => ⟨S8x64x16x16, .f32⟩
  | _ => ⟨S8x3x64x64, .f32⟩

abbrev hbmTy0_1 (i : Nat) : BufTy := match i % 128 with
  | 0 => ⟨S8x16x16x64, .f32⟩
  | 1 => ⟨S8x16x16x1x64, .f32⟩
  | 2 => ⟨S8x16x16x512x64, .f32⟩
  | 3 => ⟨S1x1x1x512x64, .f32⟩
  | 4 => ⟨S8x16x16x512x64, .f32⟩
  | 5 => ⟨S8x16x16x512x64, .f32⟩
  | 6 => ⟨S8x16x16x512x64, .f32⟩
  | 7 => ⟨S_, .f32⟩
  | 8 => ⟨S8x16x16x512, .f32⟩
  | 9 => ⟨S8x16x16x512, .f32⟩
  | 10 => ⟨S8x16x16x512, .i32⟩
  | 11 => ⟨S_, .f32⟩
  | 12 => ⟨S_, .i32⟩
  | 13 => ⟨S8x16x16, .f32⟩
  | 14 => ⟨S8x16x16, .i32⟩
  | 15 => ⟨S2048, .i32⟩
  | 16 => ⟨S_, .i32⟩
  | 17 => ⟨S2048, .i32⟩
  | 18 => ⟨S2048, .i1⟩
  | 19 => ⟨S_, .i32⟩
  | 20 => ⟨S2048, .i32⟩
  | 21 => ⟨S2048, .i32⟩
  | 22 => ⟨S2048, .i32⟩
  | 23 => ⟨S2048x1, .i32⟩
  | 24 => ⟨S1, .i32⟩
  | 25 => ⟨S_, .i32⟩
  | 26 => ⟨S2048x1, .i32⟩
  | 27 => ⟨S2048x1, .i1⟩
  | 28 => ⟨S1x1, .i32⟩
  | 29 => ⟨S2048x1, .i32⟩
  | 30 => ⟨S2048x1, .i1⟩
  | 31 => ⟨S2048x1, .i1⟩
  | 32 => ⟨S_, .i1⟩
  | 33 => ⟨S2048, .i1⟩
  | 34 => ⟨S2048x64, .f32⟩
  | 35 => ⟨S2048x64, .i1⟩
  | 36 => ⟨S_, .f32⟩
  | 37 => ⟨S2048x64, .f32⟩
  | 38 => ⟨S2048x64, .f32⟩
  | 39 => ⟨S8x16x16x64, .f32⟩
  | 40 => ⟨S8x64x16x16, .f32⟩
  | 41 => ⟨S16, .i32⟩
  | 42 => ⟨S16x1x1, .i32⟩
  | 43 => ⟨S16, .i32⟩
  | 44 => ⟨S1x16x1, .i32⟩
  | 45 => ⟨S3, .i32⟩
  | 46 => ⟨S1x1x3, .i32⟩
  | 47 => ⟨S_, .i32⟩
  | 48 => ⟨S1x16x1, .i32⟩
  | 49 => ⟨S1x16x1, .i32⟩
  | 50 => ⟨S1x16x3, .i32⟩
  | 51 => ⟨S1x16x3, .i32⟩
  | 52 => ⟨S1x16x3, .i32⟩
  | 53 => ⟨S_, .i32⟩
  | 54 => ⟨S1x16x3, .i32⟩
  | 55 => ⟨S1x16x3, .i32⟩
  | 56 => ⟨S16x16x3, .i32⟩
  | 57 => ⟨S16x16x3, .i32⟩
  | 58 => ⟨S16x16x3, .i1⟩
  | 59 => ⟨S16x16x3, .f32⟩
  | 60 => ⟨S8x64x16x16x3, .f32⟩
  | 61 => ⟨S8x64x16x3x16x3, .f32⟩
  | 62 => ⟨S64x8x16x16, .f32⟩
  | 63 => ⟨S8x64x16x16, .f32⟩
  | 64 => ⟨S_, .f32⟩
  | 65 => ⟨S8x64x16x16, .f32⟩
  | 66 => ⟨S8x64x16x16, .f32⟩
  | 67 => ⟨S64x64, .f32⟩
  | 68 => ⟨S64x8x16x16, .f32⟩
  | 69 => ⟨S8x64x16x16, .f32⟩
  | 70 => ⟨S8x64x16x16, .f32⟩
  | 71 => ⟨S16, .i32⟩
  | 72 => ⟨S16x1x1, .i32⟩
  | 73 => ⟨S16, .i32⟩
  | 74 => ⟨S1x16x1, .i32⟩
  | 75 => ⟨S3, .i32⟩
  | 76 => ⟨S1x1x3, .i32⟩
  | 77 => ⟨S_, .i32⟩
  | 78 => ⟨S1x16x1, .i32⟩
  | 79 => ⟨S1x16x1, .i32⟩
  | 80 => ⟨S1x16x3, .i32⟩
  | 81 => ⟨S1x16x3, .i32⟩
  | 82 => ⟨S1x16x3, .i32⟩
  | 83 => ⟨S_, .i32⟩
  | 84 => ⟨S1x16x3, .i32⟩
  | 85 => ⟨S1x16x3, .i32⟩
  | 86 => ⟨S16x16x3, .i32⟩
  | 87 => ⟨S16x16x3, .i32⟩
  | 88 => ⟨S16x16x3, .i1⟩
  | 89 => ⟨S16x16x3, .f32⟩
  | 90 => ⟨S8x64x16x16x3, .f32⟩
  | 91 => ⟨S8x64x16x3x16x3, .f32⟩
  | 92 => ⟨S64x8x16x16, .f32⟩
  | 93 => ⟨S8x64x16x16, .f32⟩
  | 94 => ⟨S_, .f32⟩
  | 95 => ⟨S8x64x16x16, .f32⟩
  | 96 => ⟨S8x64x16x16, .f32⟩
  | 97 => ⟨S64x64, .f32⟩
  | 98 => ⟨S64x8x16x16, .f32⟩
  | 99 => ⟨S8x64x16x16, .f32⟩
  | 100 => ⟨S8x64x16x16, .f32⟩
  | 101 => ⟨S32, .i32⟩
  | 102 => ⟨S32x1x1, .i32⟩
  | 103 => ⟨S16, .i32⟩
  | 104 => ⟨S1x16x1, .i32⟩
  | 105 => ⟨S4, .i32⟩
  | 106 => ⟨S1x1x4, .i32⟩
  | 107 => ⟨S_, .i32⟩
  | 108 => ⟨S1x16x1, .i32⟩
  | 109 => ⟨S1x16x1, .i32⟩
  | 110 => ⟨S1x16x4, .i32⟩
  | 111 => ⟨S1x16x4, .i32⟩
  | 112 => ⟨S1x16x4, .i32⟩
  | 113 => ⟨S_, .i32⟩
  | 114 => ⟨S1x16x4, .i32⟩
  | 115 => ⟨S1x16x4, .i32⟩
  | 116 => ⟨S32x16x4, .i32⟩
  | 117 => ⟨S32x16x4, .i32⟩
  | 118 => ⟨S32x16x4, .i1⟩
  | 119 => ⟨S32x16x4, .f32⟩
  | 120 => ⟨S8x64x16x32x4, .f32⟩
  | 121 => ⟨S8x64x32x4x32x4, .f32⟩
  | 122 => ⟨S64x8x32x32, .f32⟩
  | 123 => ⟨S8x64x32x32, .f32⟩
  | 124 => ⟨S1x64x1x1, .f32⟩
  | 125 => ⟨S8x64x32x32, .f32⟩
  | 126 => ⟨S8x64x32x32, .f32⟩
  | 127 => ⟨S_, .f32⟩
  | _ => ⟨S8x3x64x64, .f32⟩

abbrev hbmTy0_2 (i : Nat) : BufTy := match i % 128 with
  | 0 => ⟨S8x64x32x32, .f32⟩
  | 1 => ⟨S8x64x32x32, .f32⟩
  | 2 => ⟨S64, .i32⟩
  | 3 => ⟨S64x1x1, .i32⟩
  | 4 => ⟨S32, .i32⟩
  | 5 => ⟨S1x32x1, .i32⟩
  | 6 => ⟨S4, .i32⟩
  | 7 => ⟨S1x1x4, .i32⟩
  | 8 => ⟨S_, .i32⟩
  | 9 => ⟨S1x32x1, .i32⟩
  | 10 => ⟨S1x32x1, .i32⟩
  | 11 => ⟨S1x32x4, .i32⟩
  | 12 => ⟨S1x32x4, .i32⟩
  | 13 => ⟨S1x32x4, .i32⟩
  | 14 => ⟨S_, .i32⟩
  | 15 => ⟨S1x32x4, .i32⟩
  | 16 => ⟨S1x32x4, .i32⟩
  | 17 => ⟨S64x32x4, .i32⟩
  | 18 => ⟨S64x32x4, .i32⟩
  | 19 => ⟨S64x32x4, .i1⟩
  | 20 => ⟨S64x32x4, .f32⟩
  | 21 => ⟨S8x64x32x64x4, .f32⟩
  | 22 => ⟨S8x64x64x4x64x4, .f32⟩
  | 23 => ⟨S3x8x64x64, .f32⟩
  | 24 => ⟨S8x3x64x64, .f32⟩
  | 25 => ⟨S1x3x1x1, .f32⟩
  | 26 => ⟨S8x3x64x64, .f32⟩
  | 27 => ⟨S8x3x64x64, .f32⟩
  | 28 => ⟨S8x3x64x64, .f32⟩
  | 29 => ⟨S8x3x64x64, .f32⟩
  | 30 => ⟨S_, .f32⟩
  | 31 => ⟨S8x3x64x64, .f32⟩
  | 32 => ⟨S8x3x64x64, .f32⟩
  | 33 => ⟨S_, .f32⟩
  | 34 => ⟨S8x3x64x64, .f32⟩
  | 35 => ⟨S8x3x64x64, .f32⟩
  | 36 => ⟨S512x8x16x16x64, .f32⟩
  | 37 => ⟨S1x8x16x16x64, .f32⟩
  | 38 => ⟨S512x8x16x16x64, .f32⟩
  | 39 => ⟨S512x8x16x16x64, .f32⟩
  | 40 => ⟨S512x8x16x16x64, .f32⟩
  | 41 => ⟨S_, .f32⟩
  | 42 => ⟨S512x8x16x16, .f32⟩
  | 43 => ⟨S_, .f32⟩
  | 44 => ⟨S_, .f32⟩
  | 45 => ⟨S_, .f32⟩
  | 46 => ⟨S_, .f32⟩
  | 47 => ⟨S1x8x16x16x64, .f32⟩
  | 48 => ⟨S512x8x16x16x64, .f32⟩
  | 49 => ⟨S512x8x16x16x64, .f32⟩
  | 50 => ⟨S512x8x16x16x64, .f32⟩
  | 51 => ⟨S_, .f32⟩
  | 52 => ⟨S512x8x16x16, .f32⟩
  | 53 => ⟨S_, .f32⟩
  | 54 => ⟨S_, .f32⟩
  | 55 => ⟨S_, .f32⟩
  | 56 => ⟨S_, .f32⟩
  | _ => ⟨S8x3x64x64, .f32⟩

abbrev hbmTy (i : Nat) : BufTy := match i / 128 with
  | 0 => hbmTy0_0 i
  | 1 => hbmTy0_1 i
  | 2 => hbmTy0_2 i
  | _ => ⟨S8x3x64x64, .f32⟩

abbrev bufTy : (tb : Table) → Fin (tcTables nBuf tb) → BufTy
  | .hbm, ⟨i, _⟩ => hbmTy i
  | _, _ => ⟨S8x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call0_cst : Ref sig .tc := ⟨.hbm, 39, rfl⟩
abbrev main_call0_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_cst : Ref sig .tc := ⟨.hbm, 65, rfl⟩
abbrev main_call1_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_3 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_4 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_5 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_6 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_call3_cst : Ref sig .tc := ⟨.hbm, 121, rfl⟩
abbrev main_call3_v0 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst : Ref sig .tc := ⟨.hbm, 135, rfl⟩
abbrev main_v103 : Ref sig .tc := ⟨.hbm, 136, rfl⟩
abbrev main_v104 : Ref sig .tc := ⟨.hbm, 137, rfl⟩
abbrev main_call4_v0 : Ref sig .tc := ⟨.hbm, 138, rfl⟩
abbrev main_call4_cst : Ref sig .tc := ⟨.hbm, 139, rfl⟩
abbrev main_call4_c : Ref sig .tc := ⟨.hbm, 140, rfl⟩
abbrev main_call4_v1_0 : Ref sig .tc := ⟨.hbm, 141, rfl⟩
abbrev main_v105 : Ref sig .tc := ⟨.hbm, 142, rfl⟩
abbrev main_v106 : Ref sig .tc := ⟨.hbm, 143, rfl⟩
abbrev main_call5_c : Ref sig .tc := ⟨.hbm, 144, rfl⟩
abbrev main_call5_v0 : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_c_1 : Ref sig .tc := ⟨.hbm, 152, rfl⟩
abbrev main_call5_c_2 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_c_3 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_call5_cst : Ref sig .tc := ⟨.hbm, 164, rfl⟩
abbrev main_call5_v15 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_c_7 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_c_8 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_call6_cst : Ref sig .tc := ⟨.hbm, 192, rfl⟩
abbrev main_call6_v0 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_c_9 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_c_10 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_call7_cst : Ref sig .tc := ⟨.hbm, 222, rfl⟩
abbrev main_call7_v0 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_c_11 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_c_12 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_call8_cst : Ref sig .tc := ⟨.hbm, 255, rfl⟩
abbrev main_call8_v0 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_c_13 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_c_14 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_cst_15 : Ref sig .tc := ⟨.hbm, 286, rfl⟩
abbrev main_v213 : Ref sig .tc := ⟨.hbm, 287, rfl⟩
abbrev main_v214 : Ref sig .tc := ⟨.hbm, 288, rfl⟩
abbrev main_cst_16 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_cst_17 : Ref sig .tc := ⟨.hbm, 297, rfl⟩
abbrev main_v222 : Ref sig .tc := ⟨.hbm, 298, rfl⟩
abbrev main_cst_18 : Ref sig .tc := ⟨.hbm, 299, rfl⟩
abbrev main_v223 : Ref sig .tc := ⟨.hbm, 300, rfl⟩
abbrev main_cst_19 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_cst_20 : Ref sig .tc := ⟨.hbm, 307, rfl⟩
abbrev main_v229 : Ref sig .tc := ⟨.hbm, 308, rfl⟩
abbrev main_cst_21 : Ref sig .tc := ⟨.hbm, 309, rfl⟩
abbrev main_v230 : Ref sig .tc := ⟨.hbm, 310, rfl⟩
abbrev main_cst_22 : Ref sig .tc := ⟨.hbm, 311, rfl⟩
abbrev main_v231 : Ref sig .tc := ⟨.hbm, 312, rfl⟩

abbrev nD : Nat := 1
abbrev τ : Topo := Topo.v7x

variable {F : FTy → Type} [FloatOps F]
-- ==== Proof.RefRun.lean ====
/- The reference program as lists of host operations, one per stage, and its run: every execution ends with each buffer
   at the contents the lists leave one after the other. -/
module

public import proofs.«01_k».proof.Proof.Gen.ReferenceIdeal
public import Idealize.ShloMosaic.Lib.Claim

@[expose] public section

set_option maxRecDepth 16384

noncomputable section

namespace Cert.RefProof

open Cert.ReferenceIdeal Cert.ReferenceIdeal.Gen Idealize.ShloMosaic Idealize.ShloMosaic.TcCoe Idealize.SL.Sem Idealize.ShloMosaic.StableHlo

variable {F : FTy → Type} [FloatOps F]

/-- Programs of the reference's @main. -/
abbrev Line (F : FTy → Type) [FloatOps F] := Prog (TpuEff nD τ sig (Elt F) (Pipeline.Sig Λ₀ (Fin 0) fun p => (pcfgs (F := F) p).Adm) .tc) PUnit

/-- Lists of host operations of the reference. -/
abbrev Ops (F : FTy → Type) [FloatOps F] := List (HloOp τ sig (Elt F))

/-- Two straight lines one after the other are the line of both lists. -/
theorem isSeq_bind {p k : Line F} {a b : Ops F} (hp : IsSeq p a) (hk : IsSeq k b) : IsSeq (p >>= fun _ => k) (a ++ b) := by
  unfold IsSeq at *; rw [hp, hk, seq_append]

/-- An operation in front of the first of two lists. -/
theorem isSeq_cons {op : HloOp τ sig (Elt F)} {k : Line F} {a r : Ops F} (h : IsSeq k (a ++ r)) :
    IsSeq ((hlo rfl op fun _ => .ret (⟨⟩ : PUnit)) >>= fun _ => k : Line F) ((op :: a) ++ r) := IsSeq.cons h

/-- A straight line in front of the first of two lists. -/
theorem isSeq_call {p k : Line F} {a b r : Ops F} (hp : IsSeq p a) (hk : IsSeq k (b ++ r)) :
    IsSeq (p >>= fun _ => k) ((a ++ b) ++ r) := by
  rw [List.append_assoc]; exact isSeq_bind hp hk

/-- The first list ends and the second goes on. -/
theorem isSeq_cut {k : Line F} {r : Ops F} (h : IsSeq k r) : IsSeq k ([] ++ r) := h

/-- One operation that ends a line. -/
theorem isSeq_last {op : HloOp τ sig (Elt F)} : IsSeq (hlo rfl op fun _ => .ret (⟨⟩ : PUnit) : Line F) [op] := by
  unfold IsSeq; simp [seq]

/-- The operations of part 0 of @main, cut where a stage ends. -/
def part0 : { l : Ops F × Ops F × Ops F // ∀ D, IsSeq (main_part0 (F := F) D) (l.1 ++ (l.2.1 ++ (l.2.2))) } := by
  have mk : ∀ {a b c : Ops F}, (∀ D, IsSeq (main_part0 (F := F) D) (a ++ (b ++ (c)))) → { l : Ops F × Ops F × Ops F // ∀ D, IsSeq (main_part0 (F := F) D) (l.1 ++ (l.2.1 ++ (l.2.2))) } :=
    fun {a b c} h => ⟨(a, b, c), h⟩
  apply mk
  intro D
  unfold main_part0
  iterate 26 apply isSeq_cons
  apply isSeq_cut
  iterate 26 apply isSeq_cons
  apply isSeq_cut
  repeat (first | exact IsSeq.nil | exact isSeq_last | apply IsSeq.cons)

/-- The operations of part 1 of @main, cut where a stage ends. -/
def part1 : { l : Ops F × Ops F × Ops F × Ops F // ∀ D, IsSeq (main_part1 (F := F) D) (l.1 ++ (l.2.1 ++ (l.2.2.1 ++ (l.2.2.2)))) } := by
  have mk : ∀ {a b c d : Ops F}, (∀ D, IsSeq (main_part1 (F := F) D) (a ++ (b ++ (c ++ (d))))) → { l : Ops F × Ops F × Ops F × Ops F // ∀ D, IsSeq (main_part1 (F := F) D) (l.1 ++ (l.2.1 ++ (l.2.2.1 ++ (l.2.2.2)))) } :=
    fun {a b c d} h => ⟨(a, b, c, d), h⟩
  apply mk
  intro D
  unfold main_part1
  iterate 18 apply isSeq_cons
  apply isSeq_cut
  iterate 30 apply isSeq_cons
  apply isSeq_cut
  iterate 41 apply isSeq_cons
  apply isSeq_cut
  repeat (first | exact IsSeq.nil | exact isSeq_last | apply IsSeq.cons)

/-- The operations of part 2 of @main, cut where a stage ends. -/
def part2 : { l : Ops F × Ops F × Ops F // ∀ D, IsSeq (main_part2 (F := F) D) (l.1 ++ (l.2.1 ++ (l.2.2))) } := by
  have mk : ∀ {a b c : Ops F}, (∀ D, IsSeq (main_part2 (F := F) D) (a ++ (b ++ (c)))) → { l : Ops F × Ops F × Ops F // ∀ D, IsSeq (main_part2 (F := F) D) (l.1 ++ (l.2.1 ++ (l.2.2))) } :=
    fun {a b c} h => ⟨(a, b, c), h⟩
  apply mk
  intro D
  unfold main_part2
  iterate 29 apply isSeq_cons
  apply isSeq_cut
  iterate 30 apply isSeq_cons
  apply isSeq_cut
  repeat (first | exact IsSeq.nil | exact isSeq_last | apply IsSeq.cons)

/-- The operations of part 3 of @main, cut where a stage ends. -/
def part3 : { l : Ops F × Ops F × Ops F // ∀ D, IsSeq (main_part3 (F := F) D) (l.1 ++ (l.2.1 ++ (l.2.2))) } := by
  have mk : ∀ {a b c : Ops F}, (∀ D, IsSeq (main_part3 (F := F) D) (a ++ (b ++ (c)))) → { l : Ops F × Ops F × Ops F // ∀ D, IsSeq (main_part3 (F := F) D) (l.1 ++ (l.2.1 ++ (l.2.2))) } :=
    fun {a b c} h => ⟨(a, b, c), h⟩
  apply mk
  intro D
  unfold main_part3
  iterate 24 apply isSeq_cons
  apply isSeq_cut
  iterate 34 apply isSeq_cons
  apply isSeq_cut
  repeat (first | exact IsSeq.nil | exact isSeq_last | apply IsSeq.cons)

/-- The operations of part 4 of @main, cut where a stage ends. -/
def part4 : { l : Ops F // ∀ D, IsSeq (main_part4 (F := F) D) (l) } := by
  have mk : ∀ {a : Ops F}, (∀ D, IsSeq (main_part4 (F := F) D) (a)) → { l : Ops F // ∀ D, IsSeq (main_part4 (F := F) D) (l) } :=
    fun {a} h => ⟨(a), h⟩
  apply mk
  intro D
  unfold main_part4
  repeat (first | exact IsSeq.nil | exact isSeq_last | apply IsSeq.cons)

/-- The operations of the first convolution. -/
def sConv1 : Ops F := part0.1.1

/-- The operations of the second convolution. -/
def sConv2 : Ops F := part0.1.2.1

/-- The operations of the first residual block. -/
def sRb1 : Ops F := part0.1.2.2 ++ part1.1.1

/-- The operations of the second residual block. -/
def sRb2 : Ops F := part1.1.2.1

/-- The operations of the quantization. -/
def sVq : Ops F := part1.1.2.2.1

/-- The operations of the third residual block. -/
def sRb3 : Ops F := part1.1.2.2.2 ++ part2.1.1

/-- The operations of the fourth residual block. -/
def sRb4 : Ops F := part2.1.2.1

/-- The operations of the first transposed convolution. -/
def sDec1 : Ops F := part2.1.2.2 ++ part3.1.1

/-- The operations of the second transposed convolution and the sigmoid. -/
def sDec2 : Ops F := part3.1.2.1

/-- The operations of the losses. -/
def sLoss : Ops F := part3.1.2.2 ++ part4.1

/-- All of the reference's operations, stage by stage. -/
def ops : Ops F := sConv1 ++ (sConv2 ++ (sRb1 ++ (sRb2 ++ (sVq ++ (sRb3 ++ (sRb4 ++ (sDec1 ++ (sDec2 ++ (sLoss)))))))))

/-- @main is the straight line of the stages. -/
theorem main_isSeq (D : Dev nD) : IsSeq (main (F := F) D) ops := by
  have h := isSeq_bind ((part0 (F := F)).2 D) (isSeq_bind (part1.2 D) (isSeq_bind (part2.2 D) (isSeq_bind (part3.2 D) (part4.2 D))))
  simp only [List.append_assoc] at h
  unfold main
  simpa only [ops, sConv1, sConv2, sRb1, sRb2, sVq, sRb3, sRb4, sDec1, sDec2, sLoss, List.append_assoc] using h

theorem sConv1_sub : (sConv1 : Ops F).Forall fun op => op.bufs ⊆ tcRefs τ sig := by simp [sConv1, part0]

theorem sConv1_fresh : (sConv1 : Ops F).Forall fun op => op.fresh = ∅ := by
  simp only [sConv1, part0, List.cons_append, List.nil_append, List.forall_cons]
  repeat' constructor

theorem sConv2_sub : (sConv2 : Ops F).Forall fun op => op.bufs ⊆ tcRefs τ sig := by simp [sConv2, part0]

theorem sConv2_fresh : (sConv2 : Ops F).Forall fun op => op.fresh = ∅ := by
  simp only [sConv2, part0, List.cons_append, List.nil_append, List.forall_cons]
  repeat' constructor

theorem sRb1_sub : (sRb1 : Ops F).Forall fun op => op.bufs ⊆ tcRefs τ sig := by simp [sRb1, part0, part1]

theorem sRb1_fresh : (sRb1 : Ops F).Forall fun op => op.fresh = ∅ := by
  simp only [sRb1, part0, part1, List.cons_append, List.nil_append, List.forall_cons]
  repeat' constructor

theorem sRb2_sub : (sRb2 : Ops F).Forall fun op => op.bufs ⊆ tcRefs τ sig := by simp [sRb2, part1]

theorem sRb2_fresh : (sRb2 : Ops F).Forall fun op => op.fresh = ∅ := by
  simp only [sRb2, part1, List.cons_append, List.nil_append, List.forall_cons]
  repeat' constructor

theorem sVq_sub : (sVq : Ops F).Forall fun op => op.bufs ⊆ tcRefs τ sig := by simp [sVq, part1]

theorem sVq_fresh : (sVq : Ops F).Forall fun op => op.fresh = ∅ := by
  simp only [sVq, part1, List.cons_append, List.nil_append, List.forall_cons]
  repeat' constructor

theorem sRb3_sub : (sRb3 : Ops F).Forall fun op => op.bufs ⊆ tcRefs τ sig := by simp [sRb3, part1, part2]

theorem sRb3_fresh : (sRb3 : Ops F).Forall fun op => op.fresh = ∅ := by
  simp only [sRb3, part1, part2, List.cons_append, List.nil_append, List.forall_cons]
  repeat' constructor

theorem sRb4_sub : (sRb4 : Ops F).Forall fun op => op.bufs ⊆ tcRefs τ sig := by simp [sRb4, part2]

theorem sRb4_fresh : (sRb4 : Ops F).Forall fun op => op.fresh = ∅ := by
  simp only [sRb4, part2, List.cons_append, List.nil_append, List.forall_cons]
  repeat' constructor

theorem sDec1_sub : (sDec1 : Ops F).Forall fun op => op.bufs ⊆ tcRefs τ sig := by simp [sDec1, part2, part3]

theorem sDec1_fresh : (sDec1 : Ops F).Forall fun op => op.fresh = ∅ := by
  simp only [sDec1, part2, part3, List.cons_append, List.nil_append, List.forall_cons]
  repeat' constructor

theorem sDec2_sub : (sDec2 : Ops F).Forall fun op => op.bufs ⊆ tcRefs τ sig := by simp [sDec2, part3]

theorem sDec2_fresh : (sDec2 : Ops F).Forall fun op => op.fresh = ∅ := by
  simp only [sDec2, part3, List.cons_append, List.nil_append, List.forall_cons]
  repeat' constructor

theorem sLoss_sub : (sLoss : Ops F).Forall fun op => op.bufs ⊆ tcRefs τ sig := by simp [sLoss, part3, part4]

theorem sLoss_fresh : (sLoss : Ops F).Forall fun op => op.fresh = ∅ := by
  simp only [sLoss, part3, part4, List.cons_append, List.nil_append, List.forall_cons]
  repeat' constructor

theorem scopedRefs_eq : (Finset.univ.filter fun b : Ref sig .tc => b.isScoped) = ∅ := by decide
theorem scopedSems_eq : (Finset.univ.filter fun sm : SemLoc sig => sm.isScoped .tc) = ∅ := by decide

/-- Every execution of the reference terminates with each buffer at what the stages leave of the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_hlo defs main main_isSeq scopedRefs_eq scopedSems_eq
    (by simp only [ops, List.forall_append]; exact ⟨sConv1_sub, sConv2_sub, sRb1_sub, sRb2_sub, sVq_sub, sRb3_sub, sRb4_sub, sDec1_sub, sDec2_sub, sLoss_sub⟩)
    (List.forall_iff_forall_mem.1 (by simp only [ops, List.forall_append]; exact ⟨sConv1_fresh, sConv2_fresh, sRb1_fresh, sRb2_fresh, sVq_fresh, sRb3_fresh, sRb4_fresh, sDec1_fresh, sDec2_fresh, sLoss_fresh⟩)) m ρ

end Cert.RefProof

end
-- ==== Proof.RefFrame.lean ====
/- The reference's frame: the reference program writes none of its arguments, so every execution ends with the
   arguments as they were and with every counter at zero. -/
module

public import proofs.«01_k».proof.Proof.RefRun
public import proofs.«01_k».proof.Defs
public import Idealize.ShloMosaic.Lib.Quiescent
public import Idealize.ShloMosaic.Lib.StableHlo.RunRead

@[expose] public section

set_option maxRecDepth 16384

noncomputable section

namespace Cert.RefProof

open Cert.ReferenceIdeal Cert.ReferenceIdeal.Gen Idealize.ShloMosaic Idealize.ShloMosaic.TcCoe Idealize.SL.Sem Idealize.ShloMosaic.StableHlo

/-- The arguments of the reference. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15]

/-- The list of operations leaves each argument as it was. -/
def Keeps (l : Ops Ideal) : Prop :=
  ∀ V : Valuation τ sig (Elt Ideal), ∀ a ∈ argRefs, after l V (Proc.devRef .tc a) = V (Proc.devRef .tc a)

theorem Keeps.append {a b : Ops Ideal} (ha : Keeps a) (hb : Keeps b) : Keeps (a ++ b) := by
  intro V r hr
  rw [after_append, hb _ r hr, ha _ r hr]

theorem keeps_part0 : Keeps (part0 (F := Ideal)).1.1 ∧ Keeps (part0 (F := Ideal)).1.2.1 ∧ Keeps (part0 (F := Ideal)).1.2.2 := by
  simp only [Keeps, List.forall_mem_cons, part0]
  refine ⟨fun V => ?_, fun V => ?_, fun V => ?_⟩ <;> (and_intros <;> first | after_reads_simp | simp)

theorem keeps_part1 : Keeps (part1 (F := Ideal)).1.1 ∧ Keeps (part1 (F := Ideal)).1.2.1 ∧ Keeps (part1 (F := Ideal)).1.2.2.1 ∧ Keeps (part1 (F := Ideal)).1.2.2.2 := by
  simp only [Keeps, List.forall_mem_cons, part1]
  refine ⟨fun V => ?_, fun V => ?_, fun V => ?_, fun V => ?_⟩ <;> (and_intros <;> first | after_reads_simp | simp)

theorem keeps_part2 : Keeps (part2 (F := Ideal)).1.1 ∧ Keeps (part2 (F := Ideal)).1.2.1 ∧ Keeps (part2 (F := Ideal)).1.2.2 := by
  simp only [Keeps, List.forall_mem_cons, part2]
  refine ⟨fun V => ?_, fun V => ?_, fun V => ?_⟩ <;> (and_intros <;> first | after_reads_simp | simp)

theorem keeps_part3 : Keeps (part3 (F := Ideal)).1.1 ∧ Keeps (part3 (F := Ideal)).1.2.1 ∧ Keeps (part3 (F := Ideal)).1.2.2 := by
  simp only [Keeps, List.forall_mem_cons, part3]
  refine ⟨fun V => ?_, fun V => ?_, fun V => ?_⟩ <;> (and_intros <;> first | after_reads_simp | simp)

theorem keeps_part4 : Keeps (part4 (F := Ideal)).1 := by
  simp only [Keeps, List.forall_mem_cons, part4]
  refine fun V => ?_ <;> (and_intros <;> first | after_reads_simp | simp)

theorem keeps_conv1 : Keeps sConv1 := keeps_part0.1
theorem keeps_conv2 : Keeps sConv2 := keeps_part0.2.1
theorem keeps_rb1 : Keeps sRb1 := keeps_part0.2.2.append keeps_part1.1
theorem keeps_rb2 : Keeps sRb2 := keeps_part1.2.1
theorem keeps_vq : Keeps sVq := keeps_part1.2.2.1
theorem keeps_rb3 : Keeps sRb3 := keeps_part1.2.2.2.append keeps_part2.1
theorem keeps_rb4 : Keeps sRb4 := keeps_part2.2.1
theorem keeps_dec1 : Keeps sDec1 := keeps_part2.2.2.append keeps_part3.1
theorem keeps_dec2 : Keeps sDec2 := keeps_part3.2.1
theorem keeps_loss : Keeps sLoss := keeps_part3.2.2.append keeps_part4

/-- The whole reference leaves its arguments as they were. -/
theorem keeps_ops : Keeps ops :=
  keeps_conv1.append <| keeps_conv2.append <| keeps_rb1.append <| keeps_rb2.append <| keeps_vq.append <|
    keeps_rb3.append <| keeps_rb4.append <| keeps_dec1.append <| keeps_dec2.append keeps_loss

/-- Every execution of the reference ends with each argument as it was, and with every counter at zero. -/
theorem run_args (m : (ℓ : Loc nD τ sig) → Buf (Elt Ideal) ℓ) (g : Dev nD → PrngReg) :
    θ_run (defs (F := Ideal)) (onTc (τ := τ) (main (F := Ideal))) ⟨m, fun _ => 0, g⟩ fun r =>
      (∀ d : Dev nD, ∀ a ∈ argRefs, r.2.mem ((d.tc : Thread nD τ).loc a) = m ((d.tc : Thread nD τ).loc a))
        ∧ r.2.sem = fun _ => 0 :=
  θ_run_mono (run m g) fun r h => ⟨fun d a ha => (h d a).trans (keeps_ops _ a ha), sem_eq_zero_of_no_sems (by decide) _⟩

/-- The reference's frame, with no hypothesis. -/
theorem frame : Cert.quiescent_ReferenceIdeal := by
  intro m g _
  refine θ_run_mono (run_args m g) fun r h => ⟨fun c => ?_, h.2⟩
  have hc := h.1 c
  simp only [List.forall_mem_cons] at hc
  obtain ⟨h0, h1, h2, h3, h4, h5, h6, h7, h8, h9, h10, h11, h12, h13, h14, h15, -⟩ := hc
  exact ⟨h0, h1, h2, h3, h4, h5, h6, h7, h8, h9, h10, h11, h12, h13, h14, h15⟩

end Cert.RefProof
-- ==== Proof.Spec.lean ====
/- The mathematics of the model over the extended reals: a padded read, a convolution, a residual block, a transposed
   convolution and the quantisation, as functions of images indexed by batch, channel, row and column. Both programs
   are compared with these. -/
module

public import Idealize.ShloMosaic.Lib.Pointwise

@[expose] public section

noncomputable section

namespace Cert.Spec

open Idealize.ShloMosaic

/-- A batch of 8 images of `C` channels and `n` rows and columns. -/
abbrev Img (C n : ℕ) := Fin 8 → Fin C → Fin n → Fin n → EReal

/-- A filter bank. -/
abbrev Fil (O C k : ℕ) := Fin O → Fin C → Fin k → Fin k → EReal

/-- A rank-4 array as a function of its four coordinates. -/
def at4 {a b c d : ℕ} (A : (⟨4, ![a, b, c, d]⟩ : Shape).Idx → EReal) : Fin a → Fin b → Fin c → Fin d → EReal :=
  fun p q r s => A (ix4 p q r s)

/-- A line read with one zero before it and zeros after it. -/
def rd1 {n : ℕ} (f : Fin n → EReal) (u : ℕ) : EReal := if h : 1 ≤ u ∧ u ≤ n then f ⟨u - 1, by omega⟩ else 0

/-- A plane read with a border of zeros. -/
def rd2 {n : ℕ} (f : Fin n → Fin n → EReal) (u v : ℕ) : EReal := rd1 (fun w => rd1 (fun h => f h w) u) v

/-- A convolution of stride `s` and padding 1. -/
def conv {C n k : ℕ} (O m s : ℕ) (Z : Img C n) (w : Fil O C k) : Img O m := fun b o y x =>
  ∑ c, ∑ i : Fin k, ∑ j : Fin k, w o c i j * rd2 (Z b c) (s * y + i) (s * x + j)

/-- The positive part. -/
def relu {C n : ℕ} (Z : Img C n) : Img C n := fun b o y x => max (Z b o y x) 0

/-- A residual block: a 3x3 convolution, the positive part, a 1x1 convolution, and the input added. -/
def resBlock (Z : Img 64 16) (w : Fil 64 64 3) (w' : Fil 64 64 1) : Img 64 16 := fun b o y x =>
  (∑ c, w' o c 0 0 * relu (conv 64 16 1 Z w) b c y x) + Z b o y x

/-- A transposed convolution of stride 2, padding 1 and filters of size 4, with a bias. At row `y` the two filter rows
    that meet a row of the image are `3 - y % 2` and `1 - y % 2`. -/
def deconv {C n : ℕ} (O m : ℕ) (Z : Img C n) (w : Fil C O 4) (bias : Fin O → EReal) : Img O m := fun b o y x =>
  (∑ c, ∑ p : Fin 2, ∑ q : Fin 2,
    w c o ⟨3 - y % 2 - 2 * p, by omega⟩ ⟨3 - x % 2 - 2 * q, by omega⟩ * rd2 (Z b c) (y / 2 + y % 2 + p) (x / 2 + x % 2 + q))
    + bias o

/-- The logistic function of every entry. -/
def sigm {C n : ℕ} (Z : Img C n) : Img C n := fun b o y x =>
  Ideal.logistic (Z b o y x)

/-- The first index of a least value. -/
def FirstMin {n : ℕ} (d : Fin n → EReal) (k : Fin n) : Prop := (∀ j, d k ≤ d j) ∧ ∀ j, j < k → d k < d j

theorem FirstMin.unique {n : ℕ} {d : Fin n → EReal} {k l : Fin n} (h : FirstMin d k) (h' : FirstMin d l) : k = l := by
  rcases lt_trichotomy k l with q | q | q
  · exact absurd (h'.2 k q) (not_lt.mpr (h.1 l))
  · exact q
  · exact absurd (h.2 l q) (not_lt.mpr (h'.1 k))

/-- The distance of the pixel's channels from row `k` of the codebook. -/
def dist (Z : Img 64 16) (E : Fin 512 → Fin 64 → EReal) (b : Fin 8) (y x : Fin 16) (k : Fin 512) : EReal :=
  Ideal.sqrt (∑ c, (Z b c y x - E k c) * (Z b c y x - E k c))

/-- An image whose every pixel holds the nearest row of the codebook, the first where several are. -/
def IsQuant (Z : Img 64 16) (E : Fin 512 → Fin 64 → EReal) (Q : Img 64 16) : Prop :=
  ∀ b y x, ∃ k, FirstMin (dist Z E b y x) k ∧ ∀ o, Q b o y x = E k o

theorem IsQuant.unique {Z : Img 64 16} {E : Fin 512 → Fin 64 → EReal} {Q Q' : Img 64 16} (h : IsQuant Z E Q)
    (h' : IsQuant Z E Q') : Q = Q' := by
  funext b o y x
  obtain ⟨k, hk, e⟩ := h b y x
  obtain ⟨l, hl, e'⟩ := h' b y x
  rw [e, e', hk.unique hl]

/-- The sum of the squared differences of two images. -/
def sqDist (Z Q : Img 64 16) : EReal := ∑ b, ∑ y, ∑ x, ∑ c, (Z b c y x - Q b c y x) * (Z b c y x - Q b c y x)

/-- The mean over the pixels of the squared distance. -/
def loss (Z Q : Img 64 16) : EReal := Ideal.div (sqDist Z Q) 2048

/-- The encoder. -/
def encoder (x : Img 3 64) (w1 : Fil 64 3 4) (w2 : Fil 64 64 4) (a3 : Fil 64 64 3) (a1 : Fil 64 64 1) (b3 : Fil 64 64 3)
    (b1 : Fil 64 64 1) : Img 64 16 :=
  resBlock (resBlock (relu (conv 64 16 2 (relu (conv 64 32 2 x w1)) w2)) a3 a1) b3 b1

/-- The decoder. -/
def decoder (Q : Img 64 16) (a3 : Fil 64 64 3) (a1 : Fil 64 64 1) (b3 : Fil 64 64 3) (b1 : Fil 64 64 1) (w1 : Fil 64 64 4)
    (v1 : Fin 64 → EReal) (w2 : Fil 64 3 4) (v2 : Fin 3 → EReal) : Img 3 64 :=
  sigm (deconv 3 64 (relu (deconv 64 32 (resBlock (resBlock Q a3 a1) b3 b1) w1 v1)) w2 v2)

end Cert.Spec

end
-- ==== Proof.Split.lean ====
/- Arrays of finite values: of a finite array `x` the two remainders of its split into three parts are zero, so of
   the six products of two split operands five are zero. The lemmas are stated on whole arrays, for rewriting a
   payload before it is read at an index. -/
module

public import Idealize.ShloMosaic.Lib.Pointwise
public import Idealize.ShloMosaic.Lib.Pipeline.ValueKit

@[expose] public section

noncomputable section

namespace Cert.Split

open Idealize.ShloMosaic

/-- Every element is finite. -/
def Fnt {ι : Type} (x : ι → EReal) : Prop := ∀ i, x i ≠ ⊤ ∧ x i ≠ ⊥

/-- An extended real is finite. -/
def fin1 (a : EReal) : Prop := a ≠ ⊤ ∧ a ≠ ⊥

theorem fin1_iff {a : EReal} : fin1 a ↔ ∃ r : ℝ, a = (r : EReal) := by
  constructor
  · rintro ⟨h₁, h₂⟩; exact ⟨a.toReal, (EReal.coe_toReal h₁ h₂).symm⟩
  · rintro ⟨r, rfl⟩; exact ⟨EReal.coe_ne_top r, EReal.coe_ne_bot r⟩

theorem fin1_zero : fin1 0 := fin1_iff.mpr ⟨0, rfl⟩

theorem fin1_add {a b : EReal} (ha : fin1 a) (hb : fin1 b) : fin1 (a + b) := by
  obtain ⟨x, rfl⟩ := fin1_iff.mp ha; obtain ⟨y, rfl⟩ := fin1_iff.mp hb
  exact fin1_iff.mpr ⟨x + y, (EReal.coe_add x y).symm⟩

theorem fin1_sub {a b : EReal} (ha : fin1 a) (hb : fin1 b) : fin1 (a - b) := by
  obtain ⟨x, rfl⟩ := fin1_iff.mp ha; obtain ⟨y, rfl⟩ := fin1_iff.mp hb
  exact fin1_iff.mpr ⟨x - y, (EReal.coe_sub x y).symm⟩

theorem fin1_mul {a b : EReal} (ha : fin1 a) (hb : fin1 b) : fin1 (a * b) := by
  obtain ⟨x, rfl⟩ := fin1_iff.mp ha; obtain ⟨y, rfl⟩ := fin1_iff.mp hb
  exact fin1_iff.mpr ⟨x * y, (EReal.coe_mul x y).symm⟩

theorem fin1_max {a b : EReal} (ha : fin1 a) (hb : fin1 b) : fin1 (max a b) := by
  rcases max_choice a b with h | h <;> rw [h] <;> assumption

theorem fin1_sum {ι : Type} (s : Finset ι) (f : ι → EReal) (h : ∀ i, fin1 (f i)) : fin1 (∑ i ∈ s, f i) := by
  classical
  induction s using Finset.induction_on with
  | empty => simpa using fin1_zero
  | insert a s ha ih => rw [Finset.sum_insert ha]; exact fin1_add (h a) ih

section Arrays

variable {S T : Shape} {φ ψ : FTy}

/-- The array of zeros, in any format. -/
def zeroV (S : Shape) (φ : FTy) : FVec Ideal S φ := fun _ => (0 : EReal)

theorem constant_zero : (constant S .f32 0x00000000#32 : FVec Ideal S .f32) = zeroV S .f32 := by
  funext i; pointwise [zeroV]

theorem truncf_zero (h) : truncf (F := Ideal) .bf16 (zeroV S .f32) h = zeroV S .bf16 := by
  funext i; pointwise [zeroV]

theorem extf_zero (h) : extf (F := Ideal) .f32 (zeroV S .bf16) h = zeroV S .f32 := by
  funext i; pointwise [zeroV]

theorem subf_zero : subf (F := Ideal) (zeroV S .f32) (zeroV S .f32) = zeroV S .f32 := by
  funext i; pointwise [zeroV]

/-- The first remainder of a finite array is zero. -/
theorem rem_zero {x : FVec Ideal S .f32} (hx : Fnt (ι := S.Idx) x) (h h') :
    subf x (extf .f32 (truncf .bf16 x h) h') = zeroV S .f32 := by
  funext i; pointwise [zeroV]
  exact EReal.sub_self (hx i).1 (hx i).2

theorem slice_zero {off} (h) : extractStridedSlice T off (zeroV S φ) h = zeroV T φ := rfl

theorem cast_zero (h) : shapeCast T (zeroV S φ) h = zeroV T φ := rfl

theorem matmul_zero_right {sl sr so : Shape} (d : DotDims sl sr so) (prec) (x : FVec Ideal sl φ) (acc : FVec Ideal so .f32) :
    matmul d prec x (zeroV sr ψ) acc = acc := by
  funext j
  exact (Ideal.matmul_apply d prec _ _ acc j).trans (by simp [zeroV])

theorem matmul_zero_left {sl sr so : Shape} (d : DotDims sl sr so) (prec) (x : FVec Ideal sr φ) (acc : FVec Ideal so .f32) :
    matmul d prec (zeroV sl ψ) x acc = acc := by
  funext j
  exact (Ideal.matmul_apply d prec _ _ acc j).trans (by simp [zeroV])

theorem addf_zero_right (x : FVec Ideal S .f32) : addf x (zeroV S .f32) = x := by
  funext i; pointwise [zeroV]

theorem addf_zero_left (x : FVec Ideal S .f32) : addf (zeroV S .f32) x = x := by
  funext i; pointwise [zeroV]

theorem fnt_truncf {x : FVec Ideal S .f32} (h) (hx : Fnt (ι := S.Idx) x) : Fnt (ι := S.Idx) (truncf .bf16 x h) := hx

theorem fnt_zero : Fnt (ι := S.Idx) (zeroV S φ) := fun _ => fin1_zero

theorem fnt_slice {x : FVec Ideal S φ} {off} (h) (hx : Fnt (ι := S.Idx) x) : Fnt (ι := T.Idx) (extractStridedSlice T off x h) :=
  fun i => hx _

theorem fnt_cast {x : FVec Ideal S φ} (h) (hx : Fnt (ι := S.Idx) x) : Fnt (ι := T.Idx) (shapeCast T x h) := fun i => hx _

theorem fnt_ld {x : Vec Ideal S .f32} (r : Rect S) (hx : Fnt (ι := S.Idx) x) :
    Fnt (ι := r.shape.Idx) (View.ld x r) := fun i => hx _

theorem fnt_addf {x y : FVec Ideal S φ} (hx : Fnt (ι := S.Idx) x) (hy : Fnt (ι := S.Idx) y) : Fnt (ι := S.Idx) (addf x y) :=
  fun i => fin1_add (hx i) (hy i)

theorem fnt_maximumf {x y : FVec Ideal S φ} (hx : Fnt (ι := S.Idx) x) (hy : Fnt (ι := S.Idx) y) :
    Fnt (ι := S.Idx) (maximumf x y) := fun i => fin1_max (hx i) (hy i)

theorem fnt_broadcast_zero : Fnt (ι := S.Idx) (broadcast S (Scalar.ofBits (F := Ideal) .f32 0x00000000#32)) := by
  intro i; show fin1 _; pointwise; exact fin1_zero

theorem fnt_matmul {sl sr so : Shape} (d : DotDims sl sr so) (prec) {x : FVec Ideal sl φ} {y : FVec Ideal sr ψ}
    {acc : FVec Ideal so .f32} (hx : Fnt (ι := sl.Idx) x) (hy : Fnt (ι := sr.Idx) y) (ha : Fnt (ι := so.Idx) acc) :
    Fnt (ι := so.Idx) (matmul d prec x y acc) := by
  intro j
  show fin1 _
  rw [show matmul d prec x y acc j = _ from Ideal.matmul_apply d prec x y acc j]
  exact fin1_add (ha j) (fin1_sum _ _ fun k => fin1_mul (hx _) (hy _))

end Arrays

end Cert.Split

end
-- ==== Proof.SpecFin.lean ====
/- Of finite images and weights the encoder's stages are finite, and on finite values the score the kernel compares
   orders the rows of the codebook as the distance does. -/
module

public import proofs.«01_k».proof.Proof.Spec
public import proofs.«01_k».proof.Proof.Split

@[expose] public section

noncomputable section

namespace Cert.Spec

open Idealize.ShloMosaic Cert.Split

/-- Every entry of a function of four coordinates is finite. -/
def Fin4 {a b c d : ℕ} (Z : Fin a → Fin b → Fin c → Fin d → EReal) : Prop := ∀ p q r s, fin1 (Z p q r s)

theorem fin1_rd1 {n : ℕ} {f : Fin n → EReal} (hf : ∀ i, fin1 (f i)) (u : ℕ) : fin1 (rd1 f u) := by
  unfold rd1; split
  · exact hf _
  · exact fin1_zero

theorem fin1_rd2 {n : ℕ} {f : Fin n → Fin n → EReal} (hf : ∀ i j, fin1 (f i j)) (u v : ℕ) : fin1 (rd2 f u v) :=
  fin1_rd1 (fun _ => fin1_rd1 (fun _ => hf _ _) u) v

theorem Fin4.conv {C n k : ℕ} (O m s : ℕ) {Z : Img C n} {w : Fil O C k} (hZ : Fin4 Z) (hw : Fin4 w) :
    Fin4 (conv O m s Z w) := fun b _ _ _ =>
  fin1_sum _ _ fun c => fin1_sum _ _ fun _ => fin1_sum _ _ fun _ => fin1_mul (hw _ _ _ _) (fin1_rd2 (hZ b c) _ _)

theorem Fin4.relu {C n : ℕ} {Z : Img C n} (hZ : Fin4 Z) : Fin4 (relu Z) := fun _ _ _ _ => fin1_max (hZ _ _ _ _) fin1_zero

theorem Fin4.resBlock {Z : Img 64 16} {w : Fil 64 64 3} {w' : Fil 64 64 1} (hZ : Fin4 Z) (hw : Fin4 w) (hw' : Fin4 w') :
    Fin4 (resBlock Z w w') := fun _ _ _ _ =>
  fin1_add (fin1_sum _ _ fun _ => fin1_mul (hw' _ _ _ _) ((hZ.conv 64 16 1 hw).relu _ _ _ _)) (hZ _ _ _ _)

theorem Fin4.encoder {x : Img 3 64} {w1 : Fil 64 3 4} {w2 : Fil 64 64 4} {a3 : Fil 64 64 3} {a1 : Fil 64 64 1}
    {b3 : Fil 64 64 3} {b1 : Fil 64 64 1} (hx : Fin4 x) (h1 : Fin4 w1) (h2 : Fin4 w2) (ha3 : Fin4 a3) (ha1 : Fin4 a1)
    (hb3 : Fin4 b3) (hb1 : Fin4 b1) : Fin4 (encoder x w1 w2 a3 a1 b3 b1) :=
  (((hx.conv 64 32 2 h1).relu.conv 64 16 2 h2).relu.resBlock ha3 ha1).resBlock hb3 hb1

/-- The score the kernel compares: the squared norm of the row less twice its product with the pixel's channels. -/
def score (Z : Img 64 16) (E : Fin 512 → Fin 64 → EReal) (b : Fin 8) (y x : Fin 16) (k : Fin 512) : EReal :=
  (∑ c, E k c * E k c) - 2 * ∑ c, Z b c y x * E k c

/-- Two families in the same order have the same first least index. -/
theorem FirstMin.congr {n : ℕ} {d s : Fin n → EReal} (h : ∀ j k, d j < d k ↔ s j < s k) (k : Fin n) :
    FirstMin d k ↔ FirstMin s k := by
  unfold FirstMin
  simp only [← not_lt, h]

theorem dist_real {Z : Img 64 16} {E : Fin 512 → Fin 64 → EReal} (hZ : Fin4 Z) (hE : ∀ k c, fin1 (E k c)) (b : Fin 8)
    (y x : Fin 16) : ∃ (q : Fin 512 → ℝ) (n : ℝ), (∀ k, 0 ≤ q k) ∧ (∀ k, dist Z E b y x k = ((Real.sqrt (q k) : ℝ) : EReal)) ∧
      ∀ k, score Z E b y x k = ((q k - n : ℝ) : EReal) := by
  choose z hz using fun c => fin1_iff.mp (hZ b c y x)
  choose e he using fun k c => fin1_iff.mp (hE k c)
  have hs : ∀ (f : Fin 64 → ℝ), (∑ c, ((f c : ℝ) : EReal)) = ((∑ c, f c : ℝ) : EReal) := fun f => by
    induction (Finset.univ : Finset (Fin 64)) using Finset.induction_on with
    | empty => simp
    | insert a s ha ih => rw [Finset.sum_insert ha, Finset.sum_insert ha, ih, EReal.coe_add]
  refine ⟨fun k => ∑ c, (z c - e k c) * (z c - e k c), ∑ c, z c * z c, fun k => Finset.sum_nonneg fun c _ => mul_self_nonneg _,
    fun k => ?_, fun k => ?_⟩
  · unfold dist
    simp only [hz, he, ← EReal.coe_sub, ← EReal.coe_mul, hs]
    rw [Ideal.sqrt_coe, if_neg (not_lt.mpr (Finset.sum_nonneg fun c _ => mul_self_nonneg _))]
  · unfold score
    simp only [hz, he, ← EReal.coe_mul, hs]
    rw [show (2 : EReal) = ((2 : ℝ) : EReal) from rfl, ← EReal.coe_mul, ← EReal.coe_sub]
    congr 1
    rw [Finset.mul_sum, ← Finset.sum_sub_distrib, ← Finset.sum_sub_distrib]
    exact Finset.sum_congr rfl fun c _ => by ring

theorem dist_ne_top {Z : Img 64 16} {E : Fin 512 → Fin 64 → EReal} (hZ : Fin4 Z) (hE : ∀ k c, fin1 (E k c)) (b : Fin 8)
    (y x : Fin 16) (k : Fin 512) : dist Z E b y x k ≠ ⊤ := by
  obtain ⟨q, n, -, h, -⟩ := dist_real hZ hE b y x
  rw [h]; exact EReal.coe_ne_top _

/-- The first row of least score is the first row of least distance. -/
theorem firstMin_score {Z : Img 64 16} {E : Fin 512 → Fin 64 → EReal} (hZ : Fin4 Z) (hE : ∀ k c, fin1 (E k c)) (b : Fin 8)
    (y x : Fin 16) (k : Fin 512) : FirstMin (dist Z E b y x) k ↔ FirstMin (score Z E b y x) k := by
  obtain ⟨q, n, h0, hd, hs⟩ := dist_real hZ hE b y x
  refine FirstMin.congr (fun i j => ?_) k
  rw [hd, hd, hs, hs, EReal.coe_lt_coe_iff, EReal.coe_lt_coe_iff, Real.sqrt_lt_sqrt_iff (h0 i), sub_lt_sub_iff_right]

theorem IsQuant.fin4 {Z : Img 64 16} {E : Fin 512 → Fin 64 → EReal} {Q : Img 64 16} (h : IsQuant Z E Q)
    (hE : ∀ k c, fin1 (E k c)) : Fin4 Q := fun b o y x => by
  obtain ⟨k, _, e⟩ := h b y x
  rw [e]; exact hE _ _

theorem fin1_sqDist {Z Q : Img 64 16} (hZ : Fin4 Z) (hQ : Fin4 Q) : fin1 (sqDist Z Q) :=
  fin1_sum _ _ fun _ => fin1_sum _ _ fun _ => fin1_sum _ _ fun _ => fin1_sum _ _ fun _ =>
    fin1_mul (fin1_sub (hZ _ _ _ _) (hQ _ _ _ _)) (fin1_sub (hZ _ _ _ _) (hQ _ _ _ _))

end Cert.Spec

end
-- ==== Proof.SpecTaps.lean ====
module

public import proofs.«01_k».proof.Proof.Spec

/-!
The convolutions with their taps written one after the other: the form in which a kernel that adds
one product per tap holds them.
-/

@[expose] public section

noncomputable section

namespace Cert.Spec

open Idealize.ShloMosaic

/-- Reading one place in from the border reads the image itself. -/
theorem rd2_in {n : ℕ} (f : Fin n → Fin n → EReal) (y x : Fin n) :
    rd2 f (1 + y.val) (1 + x.val) = f y x := by
  have hy := y.isLt
  have hx := x.isLt
  simp only [rd2, rd1, le_add_iff_nonneg_right, zero_le, true_and, Nat.add_sub_cancel_left]
  rw [dif_pos (by omega), dif_pos (by omega)]

/-- The residual block as nine products before the `max`, one product after it, and the input. -/
theorem resBlock_taps (Z : Img 64 16) (w : Fil 64 64 3) (w' : Fil 64 64 1) (b : Fin 8) (o : Fin 64)
    (y x : Fin 16) :
    resBlock Z w w' b o y x =
      (∑ k, max
        (∑ c, rd2 (Z b c) y x * w k c 0 0 + ∑ c, rd2 (Z b c) y (1 + x) * w k c 0 1
          + ∑ c, rd2 (Z b c) y (2 + x) * w k c 0 2
          + ∑ c, rd2 (Z b c) (1 + y) x * w k c 1 0 + ∑ c, rd2 (Z b c) (1 + y) (1 + x) * w k c 1 1
          + ∑ c, rd2 (Z b c) (1 + y) (2 + x) * w k c 1 2
          + ∑ c, rd2 (Z b c) (2 + y) x * w k c 2 0 + ∑ c, rd2 (Z b c) (2 + y) (1 + x) * w k c 2 1
          + ∑ c, rd2 (Z b c) (2 + y) (2 + x) * w k c 2 2) 0 * w' o k 0 0)
        + rd2 (Z b o) (1 + y) (1 + x) := by
  rw [rd2_in]
  unfold resBlock
  congr 1
  refine Finset.sum_congr rfl fun k _ => ?_
  rw [mul_comm]
  congr 1
  simp only [relu, conv]
  congr 1
  simp only [Fin.sum_univ_three, Finset.sum_add_distrib, one_mul, Fin.val_zero, Fin.val_one,
    Fin.val_two, add_zero, mul_comm (w _ _ _ _), Nat.add_comm y.val, Nat.add_comm x.val, Nat.zero_add]
  abel

/-- The stride-two convolution of a 32-wide image, tap by tap. -/
theorem conv2_taps (Z : Img 64 32) (w : Fil 64 64 4) (b : Fin 8) (o : Fin 64) (y x : Fin 16) :
    conv 64 16 2 Z w b o y x =
      ∑ c, rd2 (Z b c) (2 * y) (2 * x) * w o c 0 0
        + ∑ c, rd2 (Z b c) (2 * y) (2 * x + 1) * w o c 0 1
        + ∑ c, rd2 (Z b c) (2 * y) (2 * x + 2) * w o c 0 2
        + ∑ c, rd2 (Z b c) (2 * y) (2 * x + 3) * w o c 0 3
        + ∑ c, rd2 (Z b c) (2 * y + 1) (2 * x) * w o c 1 0
        + ∑ c, rd2 (Z b c) (2 * y + 1) (2 * x + 1) * w o c 1 1
        + ∑ c, rd2 (Z b c) (2 * y + 1) (2 * x + 2) * w o c 1 2
        + ∑ c, rd2 (Z b c) (2 * y + 1) (2 * x + 3) * w o c 1 3
        + ∑ c, rd2 (Z b c) (2 * y + 2) (2 * x) * w o c 2 0
        + ∑ c, rd2 (Z b c) (2 * y + 2) (2 * x + 1) * w o c 2 1
        + ∑ c, rd2 (Z b c) (2 * y + 2) (2 * x + 2) * w o c 2 2
        + ∑ c, rd2 (Z b c) (2 * y + 2) (2 * x + 3) * w o c 2 3
        + ∑ c, rd2 (Z b c) (2 * y + 3) (2 * x) * w o c 3 0
        + ∑ c, rd2 (Z b c) (2 * y + 3) (2 * x + 1) * w o c 3 1
        + ∑ c, rd2 (Z b c) (2 * y + 3) (2 * x + 2) * w o c 3 2
        + ∑ c, rd2 (Z b c) (2 * y + 3) (2 * x + 3) * w o c 3 3 := by
  have e3 : ((3 : Fin 4) : ℕ) = 3 := rfl
  simp only [conv, Fin.sum_univ_four, Finset.sum_add_distrib, Fin.val_zero, Fin.val_one,
    Fin.val_two, e3, add_zero, mul_comm (w _ _ _ _)]
  abel

/-- The 48 columns as tap row, tap column and channel, the channel running fastest. -/
def tap48 : Fin 4 × Fin 4 × Fin 3 ≃ Fin 48 where
  toFun p := ⟨12 * p.1 + 3 * p.2.1 + p.2.2, by omega⟩
  invFun k := (⟨k / 12, by omega⟩, ⟨k / 3 % 4, by omega⟩, ⟨k % 3, by omega⟩)
  left_inv := by
    rintro ⟨i, j, c⟩
    have hi := i.isLt
    have hj := j.isLt
    have hc := c.isLt
    ext <;> simp <;> omega
  right_inv := by
    intro k
    ext
    simp
    omega

/-- A convolution of a three-channel image with 4x4 taps as one sum over the 48 pairs of a tap and
a channel, the channel running fastest. -/
theorem conv48 (Z : Img 3 64) (w : Fil 64 3 4) (b : Fin 8) (o : Fin 64) (y x : Fin 32) :
    conv 64 32 2 Z w b o y x =
      ∑ k : Fin 48, rd2 (Z b ⟨k % 3, by omega⟩) (2 * y + k / 12) (2 * x + k / 3 % 4)
        * w o ⟨k % 3, by omega⟩ ⟨k / 12, by omega⟩ ⟨k / 3 % 4, by omega⟩ := by
  rw [← tap48.sum_comp, Fintype.sum_prod_type]
  simp only [Fintype.sum_prod_type]
  unfold conv
  rw [Finset.sum_comm]
  refine Finset.sum_congr rfl fun i _ => ?_
  rw [Finset.sum_comm]
  refine Finset.sum_congr rfl fun j _ => ?_
  refine Finset.sum_congr rfl fun c _ => ?_
  have hi := i.isLt
  have hj := j.isLt
  have hc := c.isLt
  have h1 : (tap48 (i, j, c)).val = 12 * i + 3 * j + c := rfl
  have h2 : (tap48 (i, j, c)).val / 12 = i := by omega
  have h3 : (tap48 (i, j, c)).val / 3 % 4 = j := by omega
  have h4 : (tap48 (i, j, c)).val % 3 = c := by omega
  rw [mul_comm]
  simp only [h2, h3, h4]

/-- The transposed convolution at the output row `2y + r`, column `2x + s`: four products. -/
theorem deconv_taps {O m n : ℕ} (hm : m = 2 * n) (Z : Img 64 n) (w : Fil 64 O 4)
    (bias : Fin O → EReal) (b : Fin 8) (o : Fin O) (y x : Fin n) (r s : Fin 2) :
    deconv O m Z w bias b o ⟨2 * y + r, by omega⟩ ⟨2 * x + s, by omega⟩ =
      bias o
        + ∑ c, rd2 (Z b c) (r + y) (s + x) * w c o ⟨3 - r, by omega⟩ ⟨3 - s, by omega⟩
        + ∑ c, rd2 (Z b c) (r + y) (s + 1 + x) * w c o ⟨3 - r, by omega⟩ ⟨1 - s, by omega⟩
        + ∑ c, rd2 (Z b c) (r + 1 + y) (s + x) * w c o ⟨1 - r, by omega⟩ ⟨3 - s, by omega⟩
        + ∑ c, rd2 (Z b c) (r + 1 + y) (s + 1 + x) * w c o ⟨1 - r, by omega⟩ ⟨1 - s, by omega⟩ := by
  have hr := r.isLt
  have hs := s.isLt
  have e1 : (2 * y.val + r.val) / 2 = y := by omega
  have e2 : (2 * x.val + s.val) / 2 = x := by omega
  have e7 : r.val + y.val + 1 = r.val + 1 + y.val := by omega
  have e8 : s.val + x.val + 1 = s.val + 1 + x.val := by omega
  have e3 : (2 * y.val + r.val) % 2 = r.val := by omega
  have e4 : (2 * x.val + s.val) % 2 = s.val := by omega
  have e5 : 3 - r.val - 2 = 1 - r.val := by omega
  have e6 : 3 - s.val - 2 = 1 - s.val := by omega
  simp only [deconv, Fin.sum_univ_two, Finset.sum_add_distrib, e1, e2, e3, e4, Fin.val_zero,
    Fin.val_one, mul_zero, mul_one, Nat.sub_zero, e5, e6, add_zero, mul_comm (w _ _ _ _),
    Nat.add_comm y.val r.val, Nat.add_comm x.val s.val, e7, e8]
  abel

end Cert.Spec
-- ==== Proof.HostRead.lean ====
module

public import proofs.«01_k».proof.Proof.Gen.KernelIdeal.Frame.Fold0
public import proofs.«01_k».proof.Proof.SpecTaps
public import Idealize.ShloMosaic.Lib.StableHlo.RunRead
public import Idealize.ShloMosaic.Lib.Pipeline.ValueKit

/-! Reading arrays at an index, and the bordered arrays the host builds before each call. -/

@[expose] public section

set_option maxRecDepth 16384

noncomputable section

namespace Cert.KernelProof

open Idealize.ShloMosaic Idealize.ShloMosaic.StableHlo Cert.KernelIdeal Cert.KernelIdeal.Gen
open Cert.Spec

/-- Two entries of an array of rank four at equal coordinates. -/
theorem at_ix4 {α : Type} {n₀ n₁ n₂ n₃ : ℕ} (f : (⟨4, ![n₀, n₁, n₂, n₃]⟩ : Shape).Idx → α)
    {a a' : Fin n₀} {b b' : Fin n₁} {c c' : Fin n₂} {d d' : Fin n₃}
    (ha : a.val = a'.val) (hb : b.val = b'.val) (hc : c.val = c'.val) (hd : d.val = d'.val) :
    f (ix4 a b c d) = f (ix4 a' b' c' d') := by
  rw [Fin.ext ha, Fin.ext hb, Fin.ext hc, Fin.ext hd]

/-- Two pixels at equal coordinates. -/
theorem at_img {α : Type} {n₀ n₁ n₂ n₃ : ℕ} (f : Fin n₀ → Fin n₁ → Fin n₂ → Fin n₃ → α)
    {a a' : Fin n₀} {b b' : Fin n₁} {c c' : Fin n₂} {d d' : Fin n₃}
    (ha : a.val = a'.val) (hb : b.val = b'.val) (hc : c.val = c'.val) (hd : d.val = d'.val) :
    f a b c d = f a' b' c' d' := by
  rw [Fin.ext ha, Fin.ext hb, Fin.ext hc, Fin.ext hd]

/-- A plane with a border one wide, filled with the integer zero as a float. -/
theorem rd2_pad {n : ℕ} (f : Fin n → Fin n → EReal) (u v : ℕ) (hu : u < n + 2) (hv : v < n + 2) :
    (if h : (1 ≤ u ∧ u - 1 < n) ∧ 1 ≤ v ∧ v - 1 < n then f ⟨u - 1, h.1.2⟩ ⟨v - 1, h.2.2⟩
      else (FloatOps.sitofp (F := Ideal) .f32 0#32 : EReal)) = rd2 f u v := by
  have z : (FloatOps.sitofp (F := Ideal) .f32 0#32 : EReal) = 0 := by
    show ((((0#32 : BitVec 32).toInt : ℝ)) : EReal) = 0
    simp
  rw [z]
  unfold rd2 rd1
  by_cases h1 : 1 ≤ v ∧ v ≤ n <;> by_cases h2 : 1 ≤ u ∧ u ≤ n
  · rw [dif_pos (by omega), dif_pos h1]; beta_reduce; rw [dif_pos h2]
  · rw [dif_neg (by omega), dif_pos h1]; beta_reduce; rw [dif_neg h2]
  · rw [dif_neg (by omega), dif_neg h1]
  · rw [dif_neg (by omega), dif_neg h1]

/-- The border added to an array of 64 by 64 planes. -/
theorem padded64 (x : S8x64x64x3.Idx → EReal) (Z : Img 3 64) (h : ∀ b y w c, x (ix4 b y w c) = Z b c y w)
    (b : Fin 8) (u v : Fin 66) (c : Fin 3) :
    pad S8x66x66x3 ![0, 1, 1, 0] ![0, 1, 1, 0] ![0, 0, 0, 0] x
      (sitofp (F := Ideal) .f32 (constantI S_ 32 0#32)) pads_S8x64x64x3_S8x66x66x3_000_110_110_000 h_S_ (ix4 b u v c)
      = rd2 (Z b c) u v := by
  pointwise
  simp only [h]
  exact rd2_pad (Z b c) u v (by omega) (by omega)

/-- The border added to an array of 32 by 32 planes. -/
theorem padded32 (x : S8x32x32x64.Idx → EReal) (Z : Img 64 32) (h : ∀ b y w c, x (ix4 b y w c) = Z b c y w)
    (b : Fin 8) (u v : Fin 34) (c : Fin 64) :
    pad S8x34x34x64 ![0, 1, 1, 0] ![0, 1, 1, 0] ![0, 0, 0, 0] x
      (sitofp (F := Ideal) .f32 (constantI S_ 32 0#32)) pads_S8x32x32x64_S8x34x34x64_000_110_110_000 h_S_ (ix4 b u v c)
      = rd2 (Z b c) u v := by
  pointwise
  simp only [h]
  exact rd2_pad (Z b c) u v (by omega) (by omega)

/-- The border added to an array of 16 by 16 planes. -/
theorem padded16 (x : S8x16x16x64.Idx → EReal) (Z : Img 64 16) (h : ∀ b y w c, x (ix4 b y w c) = Z b c y w)
    (b : Fin 8) (u v : Fin 18) (c : Fin 64) :
    pad S8x18x18x64 ![0, 1, 1, 0] ![0, 1, 1, 0] ![0, 0, 0, 0] x
      (sitofp (F := Ideal) .f32 (constantI S_ 32 0#32)) pads_S8x16x16x64_S8x18x18x64_000_110_110_000 h_S_ (ix4 b u v c)
      = rd2 (Z b c) u v := by
  pointwise
  simp only [h]
  exact rd2_pad (Z b c) u v (by omega) (by omega)

/-- Rows that are pixels, laid out as planes. -/
theorem planes32 (x : S8192x64.Idx → EReal) (Z : Img 64 32)
    (h : ∀ (r : Fin 8192) o, x (ix2 r o) = Z ⟨r / 1024, by omega⟩ o ⟨r / 32 % 32, by omega⟩ ⟨r % 32, by omega⟩)
    (b : Fin 8) (y w : Fin 32) (c : Fin 64) :
    shapeCast S8x32x32x64 x shapeCasts_S8192x64_S8x32x32x64 (ix4 b y w c) = Z b c y w := by
  pointwise
  rw [h]
  exact at_img Z (by simp; omega) rfl (by simp; omega) (by simp; omega)

/-- Rows that are pixels, laid out as planes. -/
theorem planes16 (x : S2048x64.Idx → EReal) (Z : Img 64 16)
    (h : ∀ (r : Fin 2048) o, x (ix2 r o) = Z ⟨r / 256, by omega⟩ o ⟨r / 16 % 16, by omega⟩ ⟨r % 16, by omega⟩)
    (b : Fin 8) (y w : Fin 16) (c : Fin 64) :
    shapeCast S8x16x16x64 x shapeCasts_S2048x64_S8x16x16x64 (ix4 b y w c) = Z b c y w := by
  pointwise
  rw [h]
  exact at_img Z (by simp; omega) rfl (by simp; omega) (by simp; omega)

end Cert.KernelProof
-- ==== Proof.HostWeights.lean ====
module

public import proofs.«01_k».proof.Proof.HostRead

/-! The filters, biases and the input as the host lays them out for the calls, and the last reads. -/

@[expose] public section

set_option maxRecDepth 16384

noncomputable section

namespace Cert.KernelProof

open Idealize.ShloMosaic Idealize.ShloMosaic.StableHlo Cert.KernelIdeal Cert.KernelIdeal.Gen
open Cert.Spec

/-- The input with its channels last. -/
theorem w_v20 (V : Valuation τ sig (Elt Ideal)) (b : Fin 8) (y x : Fin 64) (c : Fin 3) :
    (after hostOps0 V (Proc.devRef .tc main_v20) : S8x64x64x3.Idx → EReal) (ix4 b y x c) = (V (Proc.devRef .tc main_arg0) : S8x3x64x64.Idx → EReal) (ix4 b c y x) := by
  unfold hostOps0
  after_reads_simp
  pointwise

/-- The filter of the first convolution. -/
theorem w_v0 (V : Valuation τ sig (Elt Ideal)) (i j : Fin 4) (c : Fin 3) (o : Fin 64) :
    (after hostOps0 V (Proc.devRef .tc main_v0) : S4x4x3x64.Idx → EReal) (ix4 i j c o) = (V (Proc.devRef .tc main_arg2) : S64x3x4x4.Idx → EReal) (ix4 o c i j) := by
  unfold hostOps0
  after_reads_simp
  pointwise

/-- The filter of the second convolution. -/
theorem w_v1 (V : Valuation τ sig (Elt Ideal)) (i j : Fin 4) (c o : Fin 64) :
    (after hostOps0 V (Proc.devRef .tc main_v1) : S4x4x64x64.Idx → EReal) (ix4 i j c o) = (V (Proc.devRef .tc main_arg3) : S64x64x4x4.Idx → EReal) (ix4 o c i j) := by
  unfold hostOps0
  after_reads_simp
  pointwise

/-- A filter of three by three taps. -/
theorem w_v2 (V : Valuation τ sig (Elt Ideal)) (i j : Fin 3) (c o : Fin 64) :
    (after hostOps0 V (Proc.devRef .tc main_v2) : S3x3x64x64.Idx → EReal) (ix4 i j c o) = (V (Proc.devRef .tc main_arg4) : S64x64x3x3.Idx → EReal) (ix4 o c i j) := by
  unfold hostOps0
  after_reads_simp
  pointwise

/-- A filter of three by three taps. -/
theorem w_v5 (V : Valuation τ sig (Elt Ideal)) (i j : Fin 3) (c o : Fin 64) :
    (after hostOps0 V (Proc.devRef .tc main_v5) : S3x3x64x64.Idx → EReal) (ix4 i j c o) = (V (Proc.devRef .tc main_arg6) : S64x64x3x3.Idx → EReal) (ix4 o c i j) := by
  unfold hostOps0
  after_reads_simp
  pointwise

/-- A filter of three by three taps. -/
theorem w_v8 (V : Valuation τ sig (Elt Ideal)) (i j : Fin 3) (c o : Fin 64) :
    (after hostOps0 V (Proc.devRef .tc main_v8) : S3x3x64x64.Idx → EReal) (ix4 i j c o) = (V (Proc.devRef .tc main_arg8) : S64x64x3x3.Idx → EReal) (ix4 o c i j) := by
  unfold hostOps0
  after_reads_simp
  pointwise

/-- A filter of three by three taps. -/
theorem w_v11 (V : Valuation τ sig (Elt Ideal)) (i j : Fin 3) (c o : Fin 64) :
    (after hostOps0 V (Proc.devRef .tc main_v11) : S3x3x64x64.Idx → EReal) (ix4 i j c o) = (V (Proc.devRef .tc main_arg10) : S64x64x3x3.Idx → EReal) (ix4 o c i j) := by
  unfold hostOps0
  after_reads_simp
  pointwise

/-- A filter of one tap. -/
theorem w_v4 (V : Valuation τ sig (Elt Ideal)) (c o : Fin 64) :
    (after hostOps0 V (Proc.devRef .tc main_v4) : S64x64.Idx → EReal) (ix2 c o) = (V (Proc.devRef .tc main_arg5) : S64x64x1x1.Idx → EReal) (ix4 o c 0 0) := by
  unfold hostOps0
  after_reads_simp
  pointwise

/-- A filter of one tap. -/
theorem w_v7 (V : Valuation τ sig (Elt Ideal)) (c o : Fin 64) :
    (after hostOps0 V (Proc.devRef .tc main_v7) : S64x64.Idx → EReal) (ix2 c o) = (V (Proc.devRef .tc main_arg7) : S64x64x1x1.Idx → EReal) (ix4 o c 0 0) := by
  unfold hostOps0
  after_reads_simp
  pointwise

/-- A filter of one tap. -/
theorem w_v10 (V : Valuation τ sig (Elt Ideal)) (c o : Fin 64) :
    (after hostOps0 V (Proc.devRef .tc main_v10) : S64x64.Idx → EReal) (ix2 c o) = (V (Proc.devRef .tc main_arg9) : S64x64x1x1.Idx → EReal) (ix4 o c 0 0) := by
  unfold hostOps0
  after_reads_simp
  pointwise

/-- A filter of one tap. -/
theorem w_v13 (V : Valuation τ sig (Elt Ideal)) (c o : Fin 64) :
    (after hostOps0 V (Proc.devRef .tc main_v13) : S64x64.Idx → EReal) (ix2 c o) = (V (Proc.devRef .tc main_arg11) : S64x64x1x1.Idx → EReal) (ix4 o c 0 0) := by
  unfold hostOps0
  after_reads_simp
  pointwise

/-- The flipped filter of the first transposed convolution. -/
theorem w_v15 (V : Valuation τ sig (Elt Ideal)) (i j : Fin 4) (c o : Fin 64) :
    (after hostOps0 V (Proc.devRef .tc main_v15) : S4x4x64x64.Idx → EReal) (ix4 i j c o) = (V (Proc.devRef .tc main_arg12) : S64x64x4x4.Idx → EReal) (ix4 c o ⟨3 - i, by omega⟩ ⟨3 - j, by omega⟩) := by
  unfold hostOps0
  after_reads_simp
  pointwise
  exact at_ix4 _ (by simp) (by simp) (by simp; try omega) (by simp; try omega)

/-- The flipped filter of the second transposed convolution. -/
theorem w_v17 (V : Valuation τ sig (Elt Ideal)) (i j : Fin 4) (c : Fin 64) (o : Fin 3) :
    (after hostOps0 V (Proc.devRef .tc main_v17) : S4x4x64x3.Idx → EReal) (ix4 i j c o) = (V (Proc.devRef .tc main_arg14) : S64x3x4x4.Idx → EReal) (ix4 c o ⟨3 - i, by omega⟩ ⟨3 - j, by omega⟩) := by
  unfold hostOps0
  after_reads_simp
  pointwise
  exact at_ix4 _ (by simp) (by simp) (by simp; try omega) (by simp; try omega)

/-- The bias of the first transposed convolution. -/
theorem w_v18 (V : Valuation τ sig (Elt Ideal)) (o : Fin 64) :
    (after hostOps0 V (Proc.devRef .tc main_v18) : S1x64.Idx → EReal) (ix2 0 o) = (V (Proc.devRef .tc main_arg13) : S64.Idx → EReal) (ix1 o) := by
  unfold hostOps0
  after_reads_simp
  pointwise

/-- The bias of the second transposed convolution. -/
theorem w_v19 (V : Valuation τ sig (Elt Ideal)) (o : Fin 3) :
    (after hostOps0 V (Proc.devRef .tc main_v19) : S1x3.Idx → EReal) (ix2 0 o) = (V (Proc.devRef .tc main_arg15) : S3.Idx → EReal) (ix1 o) := by
  unfold hostOps0
  after_reads_simp
  pointwise

/-- The integer zero that fills the first border. -/
theorem w_c (V : Valuation τ sig (Elt Ideal)) :
    (after hostOps0 V (Proc.devRef .tc main_c) : S_.Idx → BitVec 32) = constantI S_ 32 0#32 := by
  unfold hostOps0
  after_reads_simp

/-- The first filter as a matrix: a row is a tap and a channel. -/
theorem w_v49 (V : Valuation τ sig (Elt Ideal)) (k : Fin 48) (o : Fin 64) :
    (after hostOps0_2 V (Proc.devRef .tc main_v49) : S48x64.Idx → EReal) (ix2 k o) = (V (Proc.devRef .tc main_v0) : S4x4x3x64.Idx → EReal) (ix4 ⟨k / 12, by omega⟩ ⟨k / 3 % 4, by omega⟩ ⟨k % 3, by omega⟩ o) := by
  unfold hostOps0_2
  after_reads_simp
  pointwise

/-- The transposed table of vectors. -/
theorem w_v69 (V : Valuation τ sig (Elt Ideal)) (c : Fin 64) (k : Fin 512) :
    (after hostOps4 V (Proc.devRef .tc main_v69) : S64x512.Idx → EReal) (ix2 c k) = (V (Proc.devRef .tc main_arg1) : S512x64.Idx → EReal) (ix2 k c) := by
  unfold hostOps4
  after_reads_simp
  pointwise

/-- The squared lengths of the vectors of the table. -/
theorem w_v72 {V : Valuation τ sig (Elt Ideal)} {e : Fin 512 → Fin 64 → EReal}
    (he : ∀ k c, (V (Proc.devRef .tc main_arg1) : S512x64.Idx → EReal) (ix2 k c) = e k c) (k : Fin 512) :
    (after hostOps4 V (Proc.devRef .tc main_v72) : S1x512.Idx → EReal) (ix2 0 k) = ∑ c : Fin 64, e k c * e k c := by
  unfold hostOps4
  after_reads_simp
  pointwise
  simp only [he]

/-- The loss is the single entry that the quantising call left. -/
theorem w_v102 (V : Valuation τ sig (Elt Ideal)) (i : S_.Idx) :
    (after hostOps9 V (Proc.devRef .tc main_v102) : S_.Idx → EReal) i
      = (V (Proc.devRef .tc main_v73_1) : S1x1.Idx → EReal) (ix2 0 0) := by
  unfold hostOps9
  after_reads_simp
  pointwise

end Cert.KernelProof
-- ==== Proof.ExitEnc.lean ====
module
public import proofs.«01_k».proof.Proof.Gen.KernelIdeal.Frame.Fold0
public import Idealize.ShloMosaic.Lib.Pipeline.ValueKit

/-! What each call's result arrays hold when the call ends, from its operand arrays: no call has a grid, so a block is the whole array and one write leaves the whole result. -/

@[expose] public section

set_option maxRecDepth 16384

noncomputable section

namespace Cert.KernelProof

open Idealize.ShloMosaic Idealize.ShloMosaic.TcCoe Idealize.ShloMosaic.StableHlo Cert.KernelIdeal Cert.KernelIdeal.Gen

variable (V : (c : Dev nD) → (b : Ref sig .tc) → Buf (Elt Ideal) ((c : Thread nD τ).loc b)) (c : Dev nD)

/-- Call 0 reads the whole of operand 0. -/
theorem blk0_0 (t : Fin cfg0.N) : iblk0 V c 0 t = V c main_v48 := by
  funext y
  exact congrArg (V c main_v48) (funext fun a => Fin.ext (Pipeline.Window.rect_emb_val_of_index_zero (cfg0.win 0) t a rfl y))

/-- Call 0 reads the whole of operand 1. -/
theorem blk0_1 (t : Fin cfg0.N) : iblk0 V c 1 t = V c main_v49 := by
  funext y
  exact congrArg (V c main_v49) (funext fun a => Fin.ext (Pipeline.Window.rect_emb_val_of_index_zero (cfg0.win 1) t a rfl y))

/-- Result 0 of call 0. -/
theorem exit0_2 : (dat0 V c).arrAt 2 cfg0.N = out0_2 (V c main_v48) (V c main_v49) := by
  refine (dat0 V c).arrAt_eq_of_covers 2 _ (by decide +kernel) fun t _ y => ?_
  blk_simp
  rw [after0_2, blk0_0, blk0_1]
  exact congrArg (out0_2 (V c main_v48) (V c main_v49)) (funext fun a =>
    Fin.ext (Pipeline.Window.rect_emb_val_of_index_zero (cfg0.win 2) t a rfl y).symm)

/-- Call 1 reads the whole of operand 0. -/
theorem blk1_0 (t : Fin cfg1.N) : iblk1 V c 0 t = V c main_v55 := by
  funext y
  exact congrArg (V c main_v55) (funext fun a => Fin.ext (Pipeline.Window.rect_emb_val_of_index_zero (cfg1.win 0) t a rfl y))

/-- Call 1 reads the whole of operand 1. -/
theorem blk1_1 (t : Fin cfg1.N) : iblk1 V c 1 t = V c main_v57 := by
  funext y
  exact congrArg (V c main_v57) (funext fun a => Fin.ext (Pipeline.Window.rect_emb_val_of_index_zero (cfg1.win 1) t a rfl y))

/-- Call 1 reads the whole of operand 2. -/
theorem blk1_2 (t : Fin cfg1.N) : iblk1 V c 2 t = V c main_v59 := by
  funext y
  exact congrArg (V c main_v59) (funext fun a => Fin.ext (Pipeline.Window.rect_emb_val_of_index_zero (cfg1.win 2) t a rfl y))

/-- Call 1 reads the whole of operand 3. -/
theorem blk1_3 (t : Fin cfg1.N) : iblk1 V c 3 t = V c main_v61 := by
  funext y
  exact congrArg (V c main_v61) (funext fun a => Fin.ext (Pipeline.Window.rect_emb_val_of_index_zero (cfg1.win 3) t a rfl y))

/-- Call 1 reads the whole of operand 4. -/
theorem blk1_4 (t : Fin cfg1.N) : iblk1 V c 4 t = V c main_v1 := by
  funext y
  exact congrArg (V c main_v1) (funext fun a => Fin.ext (Pipeline.Window.rect_emb_val_of_index_zero (cfg1.win 4) t a rfl y))

/-- Result 0 of call 1. -/
theorem exit1_5 : (dat1 V c).arrAt 5 cfg1.N = out1_5 (V c main_v55) (V c main_v57) (V c main_v59) (V c main_v61) (V c main_v1) := by
  refine (dat1 V c).arrAt_eq_of_covers 5 _ (by decide +kernel) fun t _ y => ?_
  blk_simp
  rw [after1_5, blk1_0, blk1_1, blk1_2, blk1_3, blk1_4]
  exact congrArg (out1_5 (V c main_v55) (V c main_v57) (V c main_v59) (V c main_v61) (V c main_v1)) (funext fun a =>
    Fin.ext (Pipeline.Window.rect_emb_val_of_index_zero (cfg1.win 5) t a rfl y).symm)

/-- Call 2 reads the whole of operand 0. -/
theorem blk2_0 (t : Fin cfg2.N) : iblk2 V c 0 t = V c main_v64 := by
  funext y
  exact congrArg (V c main_v64) (funext fun a => Fin.ext (Pipeline.Window.rect_emb_val_of_index_zero (cfg2.win 0) t a rfl y))

/-- Call 2 reads the whole of operand 1. -/
theorem blk2_1 (t : Fin cfg2.N) : iblk2 V c 1 t = V c main_v2 := by
  funext y
  exact congrArg (V c main_v2) (funext fun a => Fin.ext (Pipeline.Window.rect_emb_val_of_index_zero (cfg2.win 1) t a rfl y))

/-- Call 2 reads the whole of operand 2. -/
theorem blk2_2 (t : Fin cfg2.N) : iblk2 V c 2 t = V c main_v4 := by
  funext y
  exact congrArg (V c main_v4) (funext fun a => Fin.ext (Pipeline.Window.rect_emb_val_of_index_zero (cfg2.win 2) t a rfl y))

/-- Result 0 of call 2. -/
theorem exit2_3 : (dat2 V c).arrAt 3 cfg2.N = out2_3 (V c main_v64) (V c main_v2) (V c main_v4) := by
  refine (dat2 V c).arrAt_eq_of_covers 3 _ (by decide +kernel) fun t _ y => ?_
  blk_simp
  rw [after2_3, blk2_0, blk2_1, blk2_2]
  exact congrArg (out2_3 (V c main_v64) (V c main_v2) (V c main_v4)) (funext fun a =>
    Fin.ext (Pipeline.Window.rect_emb_val_of_index_zero (cfg2.win 3) t a rfl y).symm)

/-- Call 3 reads the whole of operand 0. -/
theorem blk3_0 (t : Fin cfg3.N) : iblk3 V c 0 t = V c main_v67 := by
  funext y
  exact congrArg (V c main_v67) (funext fun a => Fin.ext (Pipeline.Window.rect_emb_val_of_index_zero (cfg3.win 0) t a rfl y))

/-- Call 3 reads the whole of operand 1. -/
theorem blk3_1 (t : Fin cfg3.N) : iblk3 V c 1 t = V c main_v5 := by
  funext y
  exact congrArg (V c main_v5) (funext fun a => Fin.ext (Pipeline.Window.rect_emb_val_of_index_zero (cfg3.win 1) t a rfl y))

/-- Call 3 reads the whole of operand 2. -/
theorem blk3_2 (t : Fin cfg3.N) : iblk3 V c 2 t = V c main_v7 := by
  funext y
  exact congrArg (V c main_v7) (funext fun a => Fin.ext (Pipeline.Window.rect_emb_val_of_index_zero (cfg3.win 2) t a rfl y))

/-- Result 0 of call 3. -/
theorem exit3_3 : (dat3 V c).arrAt 3 cfg3.N = out3_3 (V c main_v67) (V c main_v5) (V c main_v7) := by
  refine (dat3 V c).arrAt_eq_of_covers 3 _ (by decide +kernel) fun t _ y => ?_
  blk_simp
  rw [after3_3, blk3_0, blk3_1, blk3_2]
  exact congrArg (out3_3 (V c main_v67) (V c main_v5) (V c main_v7)) (funext fun a =>
    Fin.ext (Pipeline.Window.rect_emb_val_of_index_zero (cfg3.win 3) t a rfl y).symm)

/-- Call 4 reads the whole of operand 0. -/
theorem blk4_0 (t : Fin cfg4.N) : iblk4 V c 0 t = V c main_v68 := by
  funext y
  exact congrArg (V c main_v68) (funext fun a => Fin.ext (Pipeline.Window.rect_emb_val_of_index_zero (cfg4.win 0) t a rfl y))

/-- Call 4 reads the whole of operand 1. -/
theorem blk4_1 (t : Fin cfg4.N) : iblk4 V c 1 t = V c main_arg1 := by
  funext y
  exact congrArg (V c main_arg1) (funext fun a => Fin.ext (Pipeline.Window.rect_emb_val_of_index_zero (cfg4.win 1) t a rfl y))

/-- Call 4 reads the whole of operand 2. -/
theorem blk4_2 (t : Fin cfg4.N) : iblk4 V c 2 t = V c main_v69 := by
  funext y
  exact congrArg (V c main_v69) (funext fun a => Fin.ext (Pipeline.Window.rect_emb_val_of_index_zero (cfg4.win 2) t a rfl y))

/-- Call 4 reads the whole of operand 3. -/
theorem blk4_3 (t : Fin cfg4.N) : iblk4 V c 3 t = V c main_v72 := by
  funext y
  exact congrArg (V c main_v72) (funext fun a => Fin.ext (Pipeline.Window.rect_emb_val_of_index_zero (cfg4.win 3) t a rfl y))

/-- Result 0 of call 4. -/
theorem exit4_4 : (dat4 V c).arrAt 4 cfg4.N = out4_4 (V c main_v68) (V c main_arg1) (V c main_v69) (V c main_v72) := by
  refine (dat4 V c).arrAt_eq_of_covers 4 _ (by decide +kernel) fun t _ y => ?_
  blk_simp
  rw [after4_4, blk4_0, blk4_1, blk4_2, blk4_3]
  exact congrArg (out4_4 (V c main_v68) (V c main_arg1) (V c main_v69) (V c main_v72)) (funext fun a =>
    Fin.ext (Pipeline.Window.rect_emb_val_of_index_zero (cfg4.win 4) t a rfl y).symm)

/-- Result 1 of call 4. -/
theorem exit4_5 : (dat4 V c).arrAt 5 cfg4.N = out4_5 (V c main_v68) (V c main_arg1) (V c main_v69) (V c main_v72) := by
  refine (dat4 V c).arrAt_eq_of_covers 5 _ (by decide +kernel) fun t _ y => ?_
  blk_simp
  rw [after4_5, blk4_0, blk4_1, blk4_2, blk4_3]
  exact congrArg (out4_5 (V c main_v68) (V c main_arg1) (V c main_v69) (V c main_v72)) (funext fun a =>
    Fin.ext (Pipeline.Window.rect_emb_val_of_index_zero (cfg4.win 5) t a rfl y).symm)

end Cert.KernelProof
-- ==== Proof.KernelArgs.lean ====
module

public import proofs.«01_k».proof.Proof.SpecFin
public import proofs.«01_k».proof.Proof.SpecTaps
public import proofs.«01_k».proof.Proof.HostWeights
public import proofs.«01_k».proof.Proof.ExitEnc

/-! The arguments of the kernel as functions of their coordinates, and the laid out filters carried to the calls that read them. -/

@[expose] public section

set_option maxRecDepth 16384

noncomputable section

namespace Cert.KernelProof

open Idealize.ShloMosaic Idealize.ShloMosaic.TcCoe Idealize.ShloMosaic.StableHlo Cert.KernelIdeal Cert.KernelIdeal.Gen
open Cert.Spec Cert.Split

variable (m : (ℓ : Loc nD τ sig) → Buf (Elt Ideal) ℓ) (ρ : Dev nD → PrngReg) (c : Dev nD)

/-- The input. -/
def k0 : Img 3 64 := at4 (m ((c : Thread nD τ).loc main_arg0) : S8x3x64x64.Idx → EReal)

/-- The filter of the first convolution. -/
def k2 : Fil 64 3 4 := at4 (m ((c : Thread nD τ).loc main_arg2) : S64x3x4x4.Idx → EReal)

/-- The filter of the second convolution. -/
def k3 : Fil 64 64 4 := at4 (m ((c : Thread nD τ).loc main_arg3) : S64x64x4x4.Idx → EReal)

/-- The three by three filter of block 1. -/
def k4 : Fil 64 64 3 := at4 (m ((c : Thread nD τ).loc main_arg4) : S64x64x3x3.Idx → EReal)

/-- The one by one filter of block 1. -/
def k5 : Fil 64 64 1 := at4 (m ((c : Thread nD τ).loc main_arg5) : S64x64x1x1.Idx → EReal)

/-- The three by three filter of block 2. -/
def k6 : Fil 64 64 3 := at4 (m ((c : Thread nD τ).loc main_arg6) : S64x64x3x3.Idx → EReal)

/-- The one by one filter of block 2. -/
def k7 : Fil 64 64 1 := at4 (m ((c : Thread nD τ).loc main_arg7) : S64x64x1x1.Idx → EReal)

/-- The three by three filter of block 3. -/
def k8 : Fil 64 64 3 := at4 (m ((c : Thread nD τ).loc main_arg8) : S64x64x3x3.Idx → EReal)

/-- The one by one filter of block 3. -/
def k9 : Fil 64 64 1 := at4 (m ((c : Thread nD τ).loc main_arg9) : S64x64x1x1.Idx → EReal)

/-- The three by three filter of block 4. -/
def k10 : Fil 64 64 3 := at4 (m ((c : Thread nD τ).loc main_arg10) : S64x64x3x3.Idx → EReal)

/-- The one by one filter of block 4. -/
def k11 : Fil 64 64 1 := at4 (m ((c : Thread nD τ).loc main_arg11) : S64x64x1x1.Idx → EReal)

/-- The filter of the first transposed convolution. -/
def k12 : Fil 64 64 4 := at4 (m ((c : Thread nD τ).loc main_arg12) : S64x64x4x4.Idx → EReal)

/-- The filter of the second transposed convolution. -/
def k14 : Fil 64 3 4 := at4 (m ((c : Thread nD τ).loc main_arg14) : S64x3x4x4.Idx → EReal)

/-- The bias of the first transposed convolution. -/
def k13 : Fin 64 → EReal := fun o => (m ((c : Thread nD τ).loc main_arg13) : S64.Idx → EReal) (ix1 o)

/-- The bias of the second transposed convolution. -/
def k15 : Fin 3 → EReal := fun o => (m ((c : Thread nD τ).loc main_arg15) : S3.Idx → EReal) (ix1 o)

/-- The table of vectors. -/
def k1 : Fin 512 → Fin 64 → EReal := fun k o => (m ((c : Thread nD τ).loc main_arg1) : S512x64.Idx → EReal) (ix2 k o)

/-- The arrays the host lays out at the start for later calls. -/
def laid : List (Ref sig .tc) :=
  [main_v1, main_v2, main_v4, main_v5, main_v7, main_v8, main_v10, main_v11, main_v13, main_v15, main_v17, main_v18, main_v19]

theorem laid_2 : ∀ r ∈ laid, r ∉ hostOps0_1_W :=
  ListAll.forall_mem_of_all_decide (by decide +kernel)

theorem laid_3 : ∀ r ∈ laid, r ∉ hostOps0_2_W :=
  ListAll.forall_mem_of_all_decide (by decide +kernel)

theorem laid_4 : ∀ r ∈ laid, ∀ w : Fin cfg0.W, Pipeline.arrRef spec0 w = r → (cfg0.win w).isOut = false :=
  ListAll.forall_mem_of_all_decide (by decide +kernel)

theorem laid_5 : ∀ r ∈ laid, r ∉ hostOps1_W :=
  ListAll.forall_mem_of_all_decide (by decide +kernel)

theorem laid_6 : ∀ r ∈ laid, r ∉ hostOps1_1_W :=
  ListAll.forall_mem_of_all_decide (by decide +kernel)

theorem laid_7 : ∀ r ∈ laid, r ∉ hostOps1_2_W :=
  ListAll.forall_mem_of_all_decide (by decide +kernel)

/-- The laid out arrays are unchanged at boundary 7. -/
theorem laid7 (r : Ref sig .tc) (h : r ∈ laid) : W7 m ρ c (Proc.devRef .tc r) = W1 m ρ c (Proc.devRef .tc r) :=
  (W7_of m ρ c r (laid_7 r h)).trans <| (W6_of m ρ c r (laid_6 r h)).trans <| (W5_of m ρ c r (laid_5 r h)).trans <| (W4_of m ρ c r (laid_4 r h)).trans <| (W3_of m ρ c r (laid_3 r h)).trans <| (W2_of m ρ c r (laid_2 r h))

theorem laid_8 : ∀ r ∈ laid, ∀ w : Fin cfg1.W, Pipeline.arrRef spec1 w = r → (cfg1.win w).isOut = false :=
  ListAll.forall_mem_of_all_decide (by decide +kernel)

theorem laid_9 : ∀ r ∈ laid, r ∉ hostOps2_W :=
  ListAll.forall_mem_of_all_decide (by decide +kernel)

theorem laid_10 : ∀ r ∈ laid, r ∉ hostOps2_1_W :=
  ListAll.forall_mem_of_all_decide (by decide +kernel)

/-- The laid out arrays are unchanged at boundary 10. -/
theorem laid10 (r : Ref sig .tc) (h : r ∈ laid) : W10 m ρ c (Proc.devRef .tc r) = W1 m ρ c (Proc.devRef .tc r) :=
  (W10_of m ρ c r (laid_10 r h)).trans <| (W9_of m ρ c r (laid_9 r h)).trans <| (W8_of m ρ c r (laid_8 r h)).trans <| laid7 m ρ c r h

theorem laid_11 : ∀ r ∈ laid, ∀ w : Fin cfg2.W, Pipeline.arrRef spec2 w = r → (cfg2.win w).isOut = false :=
  ListAll.forall_mem_of_all_decide (by decide +kernel)

theorem laid_12 : ∀ r ∈ laid, r ∉ hostOps3_W :=
  ListAll.forall_mem_of_all_decide (by decide +kernel)

theorem laid_13 : ∀ r ∈ laid, r ∉ hostOps3_1_W :=
  ListAll.forall_mem_of_all_decide (by decide +kernel)

/-- The laid out arrays are unchanged at boundary 13. -/
theorem laid13 (r : Ref sig .tc) (h : r ∈ laid) : W13 m ρ c (Proc.devRef .tc r) = W1 m ρ c (Proc.devRef .tc r) :=
  (W13_of m ρ c r (laid_13 r h)).trans <| (W12_of m ρ c r (laid_12 r h)).trans <| (W11_of m ρ c r (laid_11 r h)).trans <| laid10 m ρ c r h

theorem laid_14 : ∀ r ∈ laid, ∀ w : Fin cfg3.W, Pipeline.arrRef spec3 w = r → (cfg3.win w).isOut = false :=
  ListAll.forall_mem_of_all_decide (by decide +kernel)

theorem laid_15 : ∀ r ∈ laid, r ∉ hostOps4_W :=
  ListAll.forall_mem_of_all_decide (by decide +kernel)

theorem laid_16 : ∀ r ∈ laid, ∀ w : Fin cfg4.W, Pipeline.arrRef spec4 w = r → (cfg4.win w).isOut = false :=
  ListAll.forall_mem_of_all_decide (by decide +kernel)

theorem laid_17 : ∀ r ∈ laid, r ∉ hostOps5_W :=
  ListAll.forall_mem_of_all_decide (by decide +kernel)

theorem laid_18 : ∀ r ∈ laid, r ∉ hostOps5_1_W :=
  ListAll.forall_mem_of_all_decide (by decide +kernel)

/-- The laid out arrays are unchanged at boundary 18. -/
theorem laid18 (r : Ref sig .tc) (h : r ∈ laid) : W18 m ρ c (Proc.devRef .tc r) = W1 m ρ c (Proc.devRef .tc r) :=
  (W18_of m ρ c r (laid_18 r h)).trans <| (W17_of m ρ c r (laid_17 r h)).trans <| (W16_of m ρ c r (laid_16 r h)).trans <| (W15_of m ρ c r (laid_15 r h)).trans <| (W14_of m ρ c r (laid_14 r h)).trans <| laid13 m ρ c r h

theorem laid_19 : ∀ r ∈ laid, ∀ w : Fin cfg5.W, Pipeline.arrRef spec5 w = r → (cfg5.win w).isOut = false :=
  ListAll.forall_mem_of_all_decide (by decide +kernel)

theorem laid_20 : ∀ r ∈ laid, r ∉ hostOps6_W :=
  ListAll.forall_mem_of_all_decide (by decide +kernel)

theorem laid_21 : ∀ r ∈ laid, r ∉ hostOps6_1_W :=
  ListAll.forall_mem_of_all_decide (by decide +kernel)

/-- The laid out arrays are unchanged at boundary 21. -/
theorem laid21 (r : Ref sig .tc) (h : r ∈ laid) : W21 m ρ c (Proc.devRef .tc r) = W1 m ρ c (Proc.devRef .tc r) :=
  (W21_of m ρ c r (laid_21 r h)).trans <| (W20_of m ρ c r (laid_20 r h)).trans <| (W19_of m ρ c r (laid_19 r h)).trans <| laid18 m ρ c r h

theorem laid_22 : ∀ r ∈ laid, ∀ w : Fin cfg6.W, Pipeline.arrRef spec6 w = r → (cfg6.win w).isOut = false :=
  ListAll.forall_mem_of_all_decide (by decide +kernel)

theorem laid_23 : ∀ r ∈ laid, r ∉ hostOps7_W :=
  ListAll.forall_mem_of_all_decide (by decide +kernel)

theorem laid_24 : ∀ r ∈ laid, r ∉ hostOps7_1_W :=
  ListAll.forall_mem_of_all_decide (by decide +kernel)

/-- The laid out arrays are unchanged at boundary 24. -/
theorem laid24 (r : Ref sig .tc) (h : r ∈ laid) : W24 m ρ c (Proc.devRef .tc r) = W1 m ρ c (Proc.devRef .tc r) :=
  (W24_of m ρ c r (laid_24 r h)).trans <| (W23_of m ρ c r (laid_23 r h)).trans <| (W22_of m ρ c r (laid_22 r h)).trans <| laid21 m ρ c r h

theorem laid_25 : ∀ r ∈ laid, ∀ w : Fin cfg7.W, Pipeline.arrRef spec7 w = r → (cfg7.win w).isOut = false :=
  ListAll.forall_mem_of_all_decide (by decide +kernel)

theorem laid_26 : ∀ r ∈ laid, r ∉ hostOps8_W :=
  ListAll.forall_mem_of_all_decide (by decide +kernel)

theorem laid_27 : ∀ r ∈ laid, r ∉ hostOps8_1_W :=
  ListAll.forall_mem_of_all_decide (by decide +kernel)

/-- The laid out arrays are unchanged at boundary 27. -/
theorem laid27 (r : Ref sig .tc) (h : r ∈ laid) : W27 m ρ c (Proc.devRef .tc r) = W1 m ρ c (Proc.devRef .tc r) :=
  (W27_of m ρ c r (laid_27 r h)).trans <| (W26_of m ρ c r (laid_26 r h)).trans <| (W25_of m ρ c r (laid_25 r h)).trans <| laid24 m ρ c r h

end Cert.KernelProof
-- ==== Proof.HostPatch.lean ====
module

public import proofs.«01_k».proof.Proof.HostRead

/-! The patch matrix of the first convolution: every four by four patch of the bordered image as a row. -/

@[expose] public section

set_option maxRecDepth 16384

noncomputable section

namespace Cert.KernelProof

open Idealize.ShloMosaic Idealize.ShloMosaic.StableHlo Cert.KernelIdeal Cert.KernelIdeal.Gen
open Cert.Spec

/-- The sixteen shifted planes that make up the patches. -/
def pieces (V : Valuation τ sig (Elt Ideal)) : Fin 16 → (S8x32x32x3.Idx → EReal) :=
  ![upto hostOps0_2 V 25 (Proc.devRef .tc main_v31),
    upto hostOps0_2 V 25 (Proc.devRef .tc main_v32),
    upto hostOps0_2 V 25 (Proc.devRef .tc main_v33),
    upto hostOps0_2 V 25 (Proc.devRef .tc main_v34),
    upto hostOps0_2 V 25 (Proc.devRef .tc main_v35),
    upto hostOps0_2 V 25 (Proc.devRef .tc main_v36),
    upto hostOps0_2 V 25 (Proc.devRef .tc main_v37),
    upto hostOps0_2 V 25 (Proc.devRef .tc main_v38),
    upto hostOps0_2 V 25 (Proc.devRef .tc main_v39),
    upto hostOps0_2 V 25 (Proc.devRef .tc main_v40),
    upto hostOps0_2 V 25 (Proc.devRef .tc main_v41),
    upto hostOps0_2 V 25 (Proc.devRef .tc main_v42),
    upto hostOps0_2 V 25 (Proc.devRef .tc main_v43),
    upto hostOps0_2 V 25 (Proc.devRef .tc main_v44),
    upto hostOps0_2 V 25 (Proc.devRef .tc main_v45),
    upto hostOps0_2 V 25 (Proc.devRef .tc main_v46)]

set_option maxHeartbeats 4000000 in
/-- Plane `n` holds the bordered image at offset `(n / 4, n % 4)`. -/
theorem pieces_apply (V : Valuation τ sig (Elt Ideal)) (n : Fin 16) (b : Fin 8) (y x : Fin 32) (c : Fin 3) :
    pieces V n (ix4 b y x c) = (V (Proc.devRef .tc main_v21) : S8x66x66x3.Idx → EReal)
      (ix4 b ⟨2 * y + n / 4, by omega⟩ ⟨2 * x + n % 4, by omega⟩ c) := by
  unfold pieces
  fin_cases n <;>
  · simp only [Fin.zero_eta, Fin.mk_one, Fin.reduceFinMk, Matrix.cons_val]
    after_reads_simp
    pointwise
    exact at_ix4 _ (by simp; try omega) (by simp; try omega) (by simp; try omega) (by simp; try omega)

/-- The sixteen planes set side by side, read at an entry. -/
theorem pieces_concat (V : Valuation τ sig (Elt Ideal)) (h) (b : Fin 8) (y x : Fin 32) (k : Fin 48) :
    concatenate S8x32x32x48 3 (List.ofFn fun n : Fin 16 => (⟨S8x32x32x3, pieces V n⟩ : (s : Shape) × (s.Idx → EReal))) h (ix4 b y x k)
      = pieces V ⟨k / 3, by omega⟩ (ix4 b y x ⟨k % 3, by omega⟩) :=
  concatenate_ofFn_apply 3 (pieces V) h rfl 3 rfl _ ⟨k / 3, by omega⟩ rfl _ rfl fun a ha => by
    fin_cases a <;> first | rfl | exact absurd rfl ha

/-- A row of the patch matrix is a pixel. -/
theorem rows48 (C : S8x32x32x48.Idx → EReal) (r : Fin 8192) (k : Fin 48) :
    shapeCast S8192x48 C shapeCasts_S8x32x32x48_S8192x48 (ix2 r k) = C (ix4 ⟨r / 1024, by omega⟩ ⟨r / 32 % 32, by omega⟩ ⟨r % 32, by omega⟩ k) := by
  pointwise

set_option maxHeartbeats 4000000 in
/-- The patch matrix: row `r` is a pixel, column `k` a tap and channel. -/
theorem patches (V : Valuation τ sig (Elt Ideal)) (r : Fin 8192) (k : Fin 48)  :
    (after hostOps0_2 V (Proc.devRef .tc main_v48) : S8192x48.Idx → EReal) (ix2 r k)
      = (V (Proc.devRef .tc main_v21) : S8x66x66x3.Idx → EReal)
        (ix4 ⟨r/1024, by omega⟩ ⟨2*(r/32%32) + k/12, by omega⟩ ⟨2*(r%32) + k/3%4, by omega⟩ ⟨k%3, by omega⟩) := by
  after_reads_simp
  exact (rows48 _ r k).trans ((pieces_concat V _ _ _ _ _).trans ((pieces_apply V _ _ _ _ _).trans
    (at_ix4 _ rfl (by simp; omega) (by simp) rfl)))
end Cert.KernelProof
-- ==== Proof.HostPad.lean ====
module

public import proofs.«01_k».proof.Proof.HostRead

/-! The bordered arrays that enter the calls, from the rows the call before left. -/

@[expose] public section

set_option maxRecDepth 16384

noncomputable section

namespace Cert.KernelProof

open Idealize.ShloMosaic Idealize.ShloMosaic.StableHlo Cert.KernelIdeal Cert.KernelIdeal.Gen
open Cert.Spec

/-- The bordered image. -/
theorem pad0 {V : Valuation τ sig (Elt Ideal)} (Z : Img 3 64)
    (hc : (V (Proc.devRef .tc main_c) : S_.Idx → BitVec 32) = constantI S_ 32 0#32)
    (h : ∀ b y x c, (V (Proc.devRef .tc main_v20) : S8x64x64x3.Idx → EReal) (ix4 b y x c) = Z b c y x)
    (b : Fin 8) (u v : Fin 66) (c : Fin 3) :
    (after hostOps0_1 V (Proc.devRef .tc main_v21) : S8x66x66x3.Idx → EReal) (ix4 b u v c) = rd2 (Z b c) u v := by
  unfold hostOps0_1
  after_reads_simp
  rw [hc]
  exact padded64 _ Z h b u v c

/-- The bordered result of the first convolution. -/
theorem pad1 {V : Valuation τ sig (Elt Ideal)} (Z : Img 64 32)
    (h : ∀ (r : Fin 8192) o, (V (Proc.devRef .tc main_v50) : S8192x64.Idx → EReal) (ix2 r o)
      = Z ⟨r / 1024, by omega⟩ o ⟨r / 32 % 32, by omega⟩ ⟨r % 32, by omega⟩)
    (b : Fin 8) (u v : Fin 34) (c : Fin 64) :
    (after hostOps1_1 (after hostOps1 V) (Proc.devRef .tc main_v52) : S8x34x34x64.Idx → EReal) (ix4 b u v c)
      = rd2 (Z b c) u v := by
  unfold hostOps1_1 hostOps1
  after_reads_simp
  exact padded32 _ Z (planes32 _ Z h) b u v c

/-- The bordered result of the first convolution, split by the parity of row and column. -/
theorem planes1 {V : Valuation τ sig (Elt Ideal)} (Z : Img 64 32)
    (h : ∀ b u v c, (V (Proc.devRef .tc main_v52) : S8x34x34x64.Idx → EReal) (ix4 b u v c) = rd2 (Z b c) u.val v.val)
    (b : Fin 8) (u v : Fin 17) (c : Fin 64) :
    (after hostOps1_2 V (Proc.devRef .tc main_v55) : S8x17x17x64.Idx → EReal) (ix4 b u v c)
        = rd2 (Z b c) (2 * u + 0) (2 * v + 0) ∧
    (after hostOps1_2 V (Proc.devRef .tc main_v57) : S8x17x17x64.Idx → EReal) (ix4 b u v c)
        = rd2 (Z b c) (2 * u + 0) (2 * v + 1) ∧
    (after hostOps1_2 V (Proc.devRef .tc main_v59) : S8x17x17x64.Idx → EReal) (ix4 b u v c)
        = rd2 (Z b c) (2 * u + 1) (2 * v + 0) ∧
    (after hostOps1_2 V (Proc.devRef .tc main_v61) : S8x17x17x64.Idx → EReal) (ix4 b u v c)
        = rd2 (Z b c) (2 * u + 1) (2 * v + 1) := by
  unfold hostOps1_2
  refine ⟨?_, ?_, ?_, ?_⟩ <;>
  · after_reads_simp
    pointwise
    rw [h]
    simp only [Nat.mul_comm, Nat.add_zero]

/-- The bordered result of the second convolution. -/
theorem pad2 {V : Valuation τ sig (Elt Ideal)} (Z : Img 64 16)
    (h : ∀ (r : Fin 2048) o, (V (Proc.devRef .tc main_v62) : S2048x64.Idx → EReal) (ix2 r o)
      = Z ⟨r / 256, by omega⟩ o ⟨r / 16 % 16, by omega⟩ ⟨r % 16, by omega⟩)
    (b : Fin 8) (u v : Fin 18) (c : Fin 64) :
    (after hostOps2_1 (after hostOps2 V) (Proc.devRef .tc main_v64) : S8x18x18x64.Idx → EReal) (ix4 b u v c)
      = rd2 (Z b c) u v := by
  unfold hostOps2_1 hostOps2
  after_reads_simp
  exact padded16 _ Z (planes16 _ Z h) b u v c

/-- The bordered result of the first block. -/
theorem pad3 {V : Valuation τ sig (Elt Ideal)} (Z : Img 64 16)
    (h : ∀ (r : Fin 2048) o, (V (Proc.devRef .tc main_v65) : S2048x64.Idx → EReal) (ix2 r o)
      = Z ⟨r / 256, by omega⟩ o ⟨r / 16 % 16, by omega⟩ ⟨r % 16, by omega⟩)
    (b : Fin 8) (u v : Fin 18) (c : Fin 64) :
    (after hostOps3_1 (after hostOps3 V) (Proc.devRef .tc main_v67) : S8x18x18x64.Idx → EReal) (ix4 b u v c)
      = rd2 (Z b c) u v := by
  unfold hostOps3_1 hostOps3
  after_reads_simp
  exact padded16 _ Z (planes16 _ Z h) b u v c

/-- The bordered result of the quantising call. -/
theorem pad5 {V : Valuation τ sig (Elt Ideal)} (Z : Img 64 16)
    (h : ∀ (r : Fin 2048) o, (V (Proc.devRef .tc main_v73_0) : S2048x64.Idx → EReal) (ix2 r o)
      = Z ⟨r / 256, by omega⟩ o ⟨r / 16 % 16, by omega⟩ ⟨r % 16, by omega⟩)
    (b : Fin 8) (u v : Fin 18) (c : Fin 64) :
    (after hostOps5_1 (after hostOps5 V) (Proc.devRef .tc main_v75) : S8x18x18x64.Idx → EReal) (ix4 b u v c)
      = rd2 (Z b c) u v := by
  unfold hostOps5_1 hostOps5
  after_reads_simp
  exact padded16 _ Z (planes16 _ Z h) b u v c

/-- The bordered result of the third block. -/
theorem pad6 {V : Valuation τ sig (Elt Ideal)} (Z : Img 64 16)
    (h : ∀ (r : Fin 2048) o, (V (Proc.devRef .tc main_v76) : S2048x64.Idx → EReal) (ix2 r o)
      = Z ⟨r / 256, by omega⟩ o ⟨r / 16 % 16, by omega⟩ ⟨r % 16, by omega⟩)
    (b : Fin 8) (u v : Fin 18) (c : Fin 64) :
    (after hostOps6_1 (after hostOps6 V) (Proc.devRef .tc main_v78) : S8x18x18x64.Idx → EReal) (ix4 b u v c)
      = rd2 (Z b c) u v := by
  unfold hostOps6_1 hostOps6
  after_reads_simp
  exact padded16 _ Z (planes16 _ Z h) b u v c

/-- The bordered result of the last block. -/
theorem pad7 {V : Valuation τ sig (Elt Ideal)} (Z : Img 64 16)
    (h : ∀ (r : Fin 2048) o, (V (Proc.devRef .tc main_v79) : S2048x64.Idx → EReal) (ix2 r o)
      = Z ⟨r / 256, by omega⟩ o ⟨r / 16 % 16, by omega⟩ ⟨r % 16, by omega⟩)
    (b : Fin 8) (u v : Fin 18) (c : Fin 64) :
    (after hostOps7_1 (after hostOps7 V) (Proc.devRef .tc main_v81) : S8x18x18x64.Idx → EReal) (ix4 b u v c)
      = rd2 (Z b c) u v := by
  unfold hostOps7_1 hostOps7
  after_reads_simp
  exact padded16 _ Z (planes16 _ Z h) b u v c

end Cert.KernelProof
-- ==== Proof.TileConv.lean ====
module

public import proofs.«01_k».proof.Proof.Gen.KernelIdeal.Frame.Region0
public import proofs.«01_k».proof.Proof.Gen.KernelIdeal.Frame.Region1
public import proofs.«01_k».proof.Proof.SpecTaps
public import proofs.«01_k».proof.Proof.SpecFin
public import Idealize.ShloMosaic.Lib.Pipeline.ValueKit

/-!
What the two stride-two convolution calls store: the rectified convolution of their input image.
-/

@[expose] public section

set_option maxRecDepth 16384

noncomputable section

namespace Cert.KernelProof

open Idealize.ShloMosaic Cert.KernelIdeal Cert.KernelIdeal.Gen
open Cert.Spec Cert.Split

/-- The first call: one product over the 48 pairs of a tap and a channel. -/
theorem tile0 (X : Vec Ideal S8192x48 .f32) (W : Vec Ideal S48x64 .f32) (Z : Img 3 64)
    (w : Fil 64 3 4) (hZ : Fin4 Z) (hw : Fin4 w)
    (hX : ∀ (r : Fin 8192) (k : Fin 48), X (ix2 r k) =
      rd2 (Z ⟨r / 1024, by omega⟩ ⟨k % 3, by omega⟩) (2 * (r / 32 % 32) + k / 12)
        (2 * (r % 32) + k / 3 % 4))
    (hW : ∀ (k : Fin 48) o, W (ix2 k o) =
      w o ⟨k % 3, by omega⟩ ⟨k / 12, by omega⟩ ⟨k / 3 % 4, by omega⟩)
    (r : Fin 8192) (o : Fin 64) :
    out0_2 X W (ix2 r o) =
      relu (conv 64 32 2 Z w) ⟨r / 1024, by omega⟩ o ⟨r / 32 % 32, by omega⟩
        ⟨r % 32, by omega⟩ := by
  have fX : Fnt (ι := S8192x48.Idx) X := by
    intro i
    obtain ⟨a, b, rfl⟩ : ∃ (a : Fin 8192) (b : Fin 48), i = ix2 a b :=
      ⟨i 0, i 1, by funext a; fin_cases a <;> rfl⟩
    rw [hX]
    exact fin1_rd2 (hZ _ _) _ _
  have fW : Fnt (ι := S48x64.Idx) W := by
    intro i
    obtain ⟨a, b, rfl⟩ : ∃ (a : Fin 48) (b : Fin 64), i = ix2 a b :=
      ⟨i 0, i 1, by funext a; fin_cases a <;> rfl⟩
    rw [hW]
    exact hw _ _ _ _
  simp only [relu, conv48]
  unfold out0_2
  rw [View.canon_cons_unit_lit _ _ _ (by decide)]
  have e0 : View.ld X r0_0 = X := View.ld_unit_lit _ _ (by decide)
  have e1 : View.ld W r0_1 = W := View.ld_unit_lit _ _ (by decide)
  simp only [k0_pay1, e0, e1, shapeCast_self, constant_zero, truncf_zero, extf_zero, subf_zero,
    rem_zero fX, rem_zero fW, matmul_zero_right, matmul_zero_left, addf_zero_right, addf_zero_left]
  pointwise [zeroV]
  simp only [hX, hW]

/-- A finite parity plane of a padded image. -/
theorem fnt_plane {X : Vec Ideal S8x17x17x64 .f32} {Z : Img 64 32} (hZ : Fin4 Z) {p q : ℕ}
    (hX : ∀ b (u v : Fin 17) c, X (ix4 b u v c) = rd2 (Z b c) (2 * u + p) (2 * v + q)) :
    Fnt (ι := S8x17x17x64.Idx) X := by
  intro i
  obtain ⟨a, b, c, d, rfl⟩ : ∃ (a : Fin 8) (b c : Fin 17) (d : Fin 64), i = ix4 a b c d :=
    ⟨i 0, i 1, i 2, i 3, by funext a; fin_cases a <;> rfl⟩
  rw [hX]
  exact fin1_rd2 (hZ a d) _ _

/-- The second call reads its padded input as four planes, one per parity of row and column. -/
theorem tile1 (X00 X01 X10 X11 : Vec Ideal S8x17x17x64 .f32) (W : Vec Ideal S4x4x64x64 .f32)
    (Z : Img 64 32) (w : Fil 64 64 4) (hZ : Fin4 Z) (hw : Fin4 w)
    (h00 : ∀ b (u v : Fin 17) c, X00 (ix4 b u v c) = rd2 (Z b c) (2 * u + 0) (2 * v + 0))
    (h01 : ∀ b (u v : Fin 17) c, X01 (ix4 b u v c) = rd2 (Z b c) (2 * u + 0) (2 * v + 1))
    (h10 : ∀ b (u v : Fin 17) c, X10 (ix4 b u v c) = rd2 (Z b c) (2 * u + 1) (2 * v + 0))
    (h11 : ∀ b (u v : Fin 17) c, X11 (ix4 b u v c) = rd2 (Z b c) (2 * u + 1) (2 * v + 1))
    (hW : ∀ i j c o, W (ix4 i j c o) = w o c i j) (r : Fin 2048) (o : Fin 64) :
    out1_5 X00 X01 X10 X11 W (ix2 r o) =
      relu (conv 64 16 2 Z w) ⟨r / 256, by omega⟩ o ⟨r / 16 % 16, by omega⟩
        ⟨r % 16, by omega⟩ := by
  have f00 := fnt_plane hZ h00
  have f01 := fnt_plane hZ h01
  have f10 := fnt_plane hZ h10
  have f11 := fnt_plane hZ h11
  have fW : Fnt (ι := S4x4x64x64.Idx) W := by
    intro i
    obtain ⟨a, b, c, d, rfl⟩ : ∃ (a b : Fin 4) (c d : Fin 64), i = ix4 a b c d :=
      ⟨i 0, i 1, i 2, i 3, by funext a; fin_cases a <;> rfl⟩
    rw [hW]
    exact hw d c a b
  simp only [relu, conv2_taps]
  unfold_out out1_5
  rw [View.canon_cons_unit_lit _ _ _ (by decide)]
  have e0 : View.ld X00 r1_0 = X00 := View.ld_unit_lit _ _ (by decide)
  have e1 : View.ld X01 r1_0 = X01 := View.ld_unit_lit _ _ (by decide)
  have e2 : View.ld X10 r1_0 = X10 := View.ld_unit_lit _ _ (by decide)
  have e3 : View.ld X11 r1_0 = X11 := View.ld_unit_lit _ _ (by decide)
  have e4 : View.ld W r1_1 = W := View.ld_unit_lit _ _ (by decide)
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67,
    e0, e1, e2, e3, e4, shapeCast_self, constant_zero, truncf_zero, extf_zero, subf_zero,
    rem_zero f00, rem_zero f01, rem_zero f10, rem_zero f11, rem_zero fW, slice_zero, cast_zero,
    matmul_zero_right, matmul_zero_left, addf_zero_right, addf_zero_left]
  pointwise [zeroV]
  have q : ∀ n, 2 * (1 + n) = 2 * n + 2 := by omega
  simp only [h00, h01, h10, h11, hW, q, add_zero, Nat.add_assoc, Nat.reduceAdd]

end Cert.KernelProof
-- ==== Proof.TileRes.lean ====
module

public import proofs.«01_k».proof.Proof.Gen.KernelIdeal.Frame.Region2
public import proofs.«01_k».proof.Proof.Gen.KernelIdeal.Frame.Region3
public import proofs.«01_k».proof.Proof.Gen.KernelIdeal.Frame.Region5
public import proofs.«01_k».proof.Proof.Gen.KernelIdeal.Frame.Region6
public import proofs.«01_k».proof.Proof.SpecTaps
public import proofs.«01_k».proof.Proof.SpecFin
public import Idealize.ShloMosaic.Lib.Pipeline.ValueKit

/-!
What one call of a residual block stores: the residual block of its input image. The calls of the
encoder split their operands into three parts first, and the parts after the first are zero for
finite operands.
-/

@[expose] public section

set_option maxRecDepth 16384

noncomputable section

namespace Cert.KernelProof

open Idealize.ShloMosaic Cert.KernelIdeal Cert.KernelIdeal.Gen
open Cert.Spec Cert.Split

/-- The third residual call stores the residual block of the image that its padded input holds. -/
theorem tile5 (X : Vec Ideal S8x18x18x64 .f32) (W3 : Vec Ideal S3x3x64x64 .f32)
    (W1 : Vec Ideal S64x64 .f32) (Z : Img 64 16) (w : Fil 64 64 3) (w' : Fil 64 64 1)
    (hX : ∀ b (u v : Fin 18) c, X (ix4 b u v c) = rd2 (Z b c) u v)
    (hW3 : ∀ i j c o, W3 (ix4 i j c o) = w o c i j) (hW1 : ∀ c o, W1 (ix2 c o) = w' o c 0 0)
    (r : Fin 2048) (o : Fin 64) :
    out5_3 X W3 W1 (ix2 r o) =
      resBlock Z w w' ⟨r / 256, by omega⟩ o ⟨r / 16 % 16, by omega⟩ ⟨r % 16, by omega⟩ := by
  rw [resBlock_taps]
  unfold out5_3
  rw [View.canon_cons_unit_lit _ _ _ (by decide)]
  pointwise [k5_pay1, k5_pay2, k5_pay3, k5_pay4, k5_pay5, k5_pay6]
  simp only [hX, hW3, hW1]

/-- The fourth residual call stores the residual block of the image that its padded input holds. -/
theorem tile6 (X : Vec Ideal S8x18x18x64 .f32) (W3 : Vec Ideal S3x3x64x64 .f32)
    (W1 : Vec Ideal S64x64 .f32) (Z : Img 64 16) (w : Fil 64 64 3) (w' : Fil 64 64 1)
    (hX : ∀ b (u v : Fin 18) c, X (ix4 b u v c) = rd2 (Z b c) u v)
    (hW3 : ∀ i j c o, W3 (ix4 i j c o) = w o c i j) (hW1 : ∀ c o, W1 (ix2 c o) = w' o c 0 0)
    (r : Fin 2048) (o : Fin 64) :
    out6_3 X W3 W1 (ix2 r o) =
      resBlock Z w w' ⟨r / 256, by omega⟩ o ⟨r / 16 % 16, by omega⟩ ⟨r % 16, by omega⟩ := by
  rw [resBlock_taps]
  unfold out6_3
  rw [View.canon_cons_unit_lit _ _ _ (by decide)]
  pointwise [k6_pay1, k6_pay2, k6_pay3, k6_pay4, k6_pay5, k6_pay6]
  simp only [hX, hW3, hW1]

/-- A padded image of finite entries is finite. -/
theorem fnt_pad {X : Vec Ideal S8x18x18x64 .f32} {Z : Img 64 16} (hZ : Fin4 Z)
    (hX : ∀ b (u v : Fin 18) c, X (ix4 b u v c) = rd2 (Z b c) u v) : Fnt (ι := S8x18x18x64.Idx) X := by
  intro i
  obtain ⟨a, b, c, d, rfl⟩ : ∃ (a : Fin 8) (b c : Fin 18) (d : Fin 64), i = ix4 a b c d :=
    ⟨i 0, i 1, i 2, i 3, by funext a; fin_cases a <;> rfl⟩
  rw [hX]
  exact fin1_rd2 (hZ a d) _ _

/-- The 3x3 weights of a finite filter are finite. -/
theorem fnt_w3 {W : Vec Ideal S3x3x64x64 .f32} {w : Fil 64 64 3} (hw : Fin4 w)
    (hW : ∀ i j c o, W (ix4 i j c o) = w o c i j) : Fnt (ι := S3x3x64x64.Idx) W := by
  intro i
  obtain ⟨a, b, c, d, rfl⟩ : ∃ (a b : Fin 3) (c d : Fin 64), i = ix4 a b c d :=
    ⟨i 0, i 1, i 2, i 3, by funext a; fin_cases a <;> rfl⟩
  rw [hW]
  exact hw d c a b

/-- The 1x1 weights of a finite filter are finite. -/
theorem fnt_w1 {W : Vec Ideal S64x64 .f32} {w : Fil 64 64 1} (hw : Fin4 w)
    (hW : ∀ c o, W (ix2 c o) = w o c 0 0) : Fnt (ι := S64x64.Idx) W := by
  intro i
  obtain ⟨a, b, rfl⟩ : ∃ (a b : Fin 64), i = ix2 a b :=
    ⟨i 0, i 1, by funext a; fin_cases a <;> rfl⟩
  rw [hW]
  exact hw b a 0 0

set_option maxHeartbeats 2000000 in
/-- The first residual call stores the residual block of the finite image that its padded input
holds. -/
theorem tile2 (X : Vec Ideal S8x18x18x64 .f32) (W3 : Vec Ideal S3x3x64x64 .f32)
    (W1 : Vec Ideal S64x64 .f32) (Z : Img 64 16) (w : Fil 64 64 3) (w' : Fil 64 64 1)
    (hZ : Fin4 Z) (hw : Fin4 w) (hw' : Fin4 w')
    (hX : ∀ b (u v : Fin 18) c, X (ix4 b u v c) = rd2 (Z b c) u v)
    (hW3 : ∀ i j c o, W3 (ix4 i j c o) = w o c i j) (hW1 : ∀ c o, W1 (ix2 c o) = w' o c 0 0)
    (r : Fin 2048) (o : Fin 64) :
    out2_3 X W3 W1 (ix2 r o) =
      resBlock Z w w' ⟨r / 256, by omega⟩ o ⟨r / 16 % 16, by omega⟩ ⟨r % 16, by omega⟩ := by
  rw [resBlock_taps]
  have fX := fnt_pad hZ hX
  have fW3 := fnt_w3 hw hW3
  have fW1 := fnt_w1 hw' hW1
  unfold_out out2_3
  rw [View.canon_cons_unit_lit _ _ _ (by decide)]
  have e0 : View.ld X r2_0 = X := View.ld_unit_lit _ _ (by decide)
  have e1 : View.ld W3 r2_1 = W3 := View.ld_unit_lit _ _ (by decide)
  have e2 : View.ld W1 r2_2 = W1 := View.ld_unit_lit _ _ (by decide)
  simp only [k2_pay1, k2_pay2, k2_pay3, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30,
    e0, e1, e2, shapeCast_self, constant_zero, truncf_zero, extf_zero, subf_zero, rem_zero fX,
    rem_zero fW3, rem_zero fW1, slice_zero, cast_zero, matmul_zero_right, matmul_zero_left,
    addf_zero_right, addf_zero_left]
  rw [rem_zero (x := maximumf _ _) ?h]
  case h =>
    refine fnt_maximumf (fnt_addf (fnt_addf (fnt_addf (fnt_addf (fnt_addf (fnt_addf (fnt_addf
      (fnt_addf ?_ ?_) ?_) ?_) ?_) ?_) ?_) ?_) ?_) fnt_broadcast_zero <;>
      exact fnt_matmul _ _ (fnt_cast _ (fnt_slice _ (fnt_truncf _ fX)))
        (fnt_cast _ (fnt_slice _ (fnt_truncf _ fW3))) fnt_zero
  simp only [truncf_zero, extf_zero, subf_zero, matmul_zero_right, matmul_zero_left, addf_zero_right,
    addf_zero_left]
  pointwise [zeroV]
  simp only [hX, hW3, hW1]

set_option maxHeartbeats 2000000 in
/-- The second residual call stores the residual block of the finite image that its padded input
holds. -/
theorem tile3 (X : Vec Ideal S8x18x18x64 .f32) (W3 : Vec Ideal S3x3x64x64 .f32)
    (W1 : Vec Ideal S64x64 .f32) (Z : Img 64 16) (w : Fil 64 64 3) (w' : Fil 64 64 1)
    (hZ : Fin4 Z) (hw : Fin4 w) (hw' : Fin4 w')
    (hX : ∀ b (u v : Fin 18) c, X (ix4 b u v c) = rd2 (Z b c) u v)
    (hW3 : ∀ i j c o, W3 (ix4 i j c o) = w o c i j) (hW1 : ∀ c o, W1 (ix2 c o) = w' o c 0 0)
    (r : Fin 2048) (o : Fin 64) :
    out3_3 X W3 W1 (ix2 r o) =
      resBlock Z w w' ⟨r / 256, by omega⟩ o ⟨r / 16 % 16, by omega⟩ ⟨r % 16, by omega⟩ := by
  rw [resBlock_taps]
  have fX := fnt_pad hZ hX
  have fW3 := fnt_w3 hw hW3
  have fW1 := fnt_w1 hw' hW1
  unfold_out out3_3
  rw [View.canon_cons_unit_lit _ _ _ (by decide)]
  have e0 : View.ld X r3_0 = X := View.ld_unit_lit _ _ (by decide)
  have e1 : View.ld W3 r3_1 = W3 := View.ld_unit_lit _ _ (by decide)
  have e2 : View.ld W1 r3_2 = W1 := View.ld_unit_lit _ _ (by decide)
  simp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30,
    e0, e1, e2, shapeCast_self, constant_zero, truncf_zero, extf_zero, subf_zero, rem_zero fX,
    rem_zero fW3, rem_zero fW1, slice_zero, cast_zero, matmul_zero_right, matmul_zero_left,
    addf_zero_right, addf_zero_left]
  rw [rem_zero (x := maximumf _ _) ?h]
  case h =>
    refine fnt_maximumf (fnt_addf (fnt_addf (fnt_addf (fnt_addf (fnt_addf (fnt_addf (fnt_addf
      (fnt_addf ?_ ?_) ?_) ?_) ?_) ?_) ?_) ?_) ?_) fnt_broadcast_zero <;>
      exact fnt_matmul _ _ (fnt_cast _ (fnt_slice _ (fnt_truncf _ fX)))
        (fnt_cast _ (fnt_slice _ (fnt_truncf _ fW3))) fnt_zero
  simp only [truncf_zero, extf_zero, subf_zero, matmul_zero_right, matmul_zero_left, addf_zero_right,
    addf_zero_left]
  pointwise [zeroV]
  simp only [hX, hW3, hW1]

end Cert.KernelProof
-- ==== Proof.TileVqLem.lean ====
module

public import proofs.«01_k».proof.Proof.SpecFin
public import Idealize.ShloMosaic.Lib.Pipeline.ValueKit

/-!
The steps by which a kernel finds the first index of a smallest value: the minimum of the values,
the index where the minimum stands and a larger number elsewhere, the minimum of those, and a row of
zeros with one 1.
-/

@[expose] public section

noncomputable section

namespace Cert.KernelProof

open Idealize.ShloMosaic Cert.Spec Cert.Split

/-- The minimum of the values is the value at their first smallest index. -/
theorem fold_min {n : ℕ} {f : Fin n → EReal} {k : Fin n} (h : FirstMin f k) :
    Finset.fold min (Ideal.ofBits FTy.f32 2139095040#32) f Finset.univ = f k := by
  have e : Ideal.ofBits FTy.f32 2139095040#32 = ⊤ := by simp [Ideal.ofBits, Ideal.ieee]
  rw [e]
  refine le_antisymm ?_ ?_
  · exact (Finset.fold_min_le _).2 (Or.inr ⟨k, Finset.mem_univ _, le_rfl⟩)
  · exact (Finset.le_fold_min _).2 ⟨le_top, fun j _ => h.1 j⟩

/-- A signed word minimum reads as the minimum of the integers. -/
theorem toInt_minsi (a b : BitVec 32) : (IntOp.minsi a b).toInt = min a.toInt b.toInt := by
  unfold IntOp.minsi
  rcases le_total a.toInt b.toInt with h | h
  · by_cases q : a.slt b
    · simp [q, h]
    · have : ¬ a.toInt < b.toInt := by simpa [BitVec.slt] using q
      simp [q]; omega
  · by_cases q : a.slt b
    · have : a.toInt < b.toInt := by simpa [BitVec.slt] using q
      simp [q]; omega
    · simp [q, h]

/-- The least of the words that hold the index where the minimum stands, and 512 elsewhere, is the
first smallest index. -/
theorem fold_minsi {f : Fin 512 → EReal} {k : Fin 512} (h : FirstMin f k) :
    Finset.fold IntOp.minsi (2147483647#32)
      (fun j : Fin 512 => if f j = f k then BitVec.ofNat 32 j.val else 512#32) Finset.univ =
      BitVec.ofNat 32 k.val := by
  have ti : ∀ m : ℕ, m ≤ 512 → (BitVec.ofNat 32 m).toInt = m := by
    intro m hm
    have e : m % 2 ^ 32 = m := Nat.mod_eq_of_lt (by omega)
    simp only [BitVec.toInt, BitVec.toNat_ofNat, e]
    rw [if_pos (by omega)]
  apply BitVec.eq_of_toInt_eq
  rw [← Finset.fold_hom (op' := min) toInt_minsi]
  have hk := k.isLt
  refine le_antisymm ?_ ?_
  · refine (Finset.fold_min_le _).2 (Or.inr ⟨k, Finset.mem_univ _, ?_⟩)
    simp
  · refine (Finset.le_fold_min _).2 ⟨?_, fun j _ => ?_⟩
    · rw [ti _ (by omega)]
      have : (2147483647#32).toInt = 2147483647 := by decide
      omega
    · by_cases q : f j = f k
      · have : k ≤ j := by
          by_contra c
          exact absurd (h.2 j (not_le.mp c)) (by rw [q]; exact lt_irrefl _)
        have hj := j.isLt
        simp only [q, if_true]
        rw [ti _ (by omega), ti _ (by omega)]
        exact_mod_cast this
      · simp only [q, if_false]
        rw [ti _ (by omega), ti 512 (by omega)]
        omega

/-- The comparison of an index with a word, as a number: 1 at that index, 0 elsewhere. -/
theorem oneHot_val (j k : Fin 512) :
    (FloatOps.sitofp (F := Ideal) FTy.f32
      (BitVec.setWidth 32 (IntOp.cmpi CmpIPredicate.eq (BitVec.ofNat 32 j.val) (BitVec.ofNat 32 k.val))) : EReal) =
      if j = k then 1 else 0 := by
  have hj := j.isLt
  have hk := k.isLt
  have e : (BitVec.ofNat 32 j.val = BitVec.ofNat 32 k.val) ↔ j = k := by
    constructor
    · intro h
      have := congrArg BitVec.toNat h
      simp only [BitVec.toNat_ofNat] at this
      ext
      omega
    · rintro rfl; rfl
  by_cases q : j = k
  · subst q
    simp [IntOp.cmpi, FloatOps.sitofp]
  · have q' : ¬ BitVec.ofNat 32 j.val = BitVec.ofNat 32 k.val := fun h => q (e.1 h)
    have b : (BitVec.ofNat 32 j.val == BitVec.ofNat 32 k.val) = false := beq_eq_false_iff_ne.mpr q'
    simp [IntOp.cmpi, FloatOps.sitofp, q, b]

/-- A sum against a row with a single 1 picks one entry. -/
theorem sum_oneHot (k : Fin 512) (g : Fin 512 → EReal) :
    ∑ j, (if j = k then (1 : EReal) else 0) * g j = g k := by
  rw [Finset.sum_eq_single k]
  · simp
  · intro j _ hj; simp [hj]
  · simp

/-- The 2048 rows of a pixel matrix as image, row and column, the column running fastest. -/
def pix : Fin 8 × Fin 16 × Fin 16 ≃ Fin 2048 where
  toFun p := ⟨256 * p.1 + 16 * p.2.1 + p.2.2, by omega⟩
  invFun k := (⟨k / 256, by omega⟩, ⟨k / 16 % 16, by omega⟩, ⟨k % 16, by omega⟩)
  left_inv := by
    rintro ⟨i, j, c⟩
    have hi := i.isLt
    have hj := j.isLt
    have hc := c.isLt
    ext <;> simp <;> omega
  right_inv := by
    intro k
    ext
    simp
    omega

theorem pix_parts (b : Fin 8) (y x : Fin 16) :
    (⟨(pix (b, y, x)).val / 256, by omega⟩ : Fin 8) = b ∧
      (⟨(pix (b, y, x)).val / 16 % 16, by omega⟩ : Fin 16) = y ∧
      (⟨(pix (b, y, x)).val % 16, by omega⟩ : Fin 16) = x := by
  have h := pix.left_inv (b, y, x)
  exact ⟨congrArg (·.1) h, congrArg (·.2.1) h, congrArg (·.2.2) h⟩

/-- A sum over the rows of a pixel matrix is a sum over images, rows and columns. -/
theorem sum_pix (f : Fin 2048 → EReal) : ∑ r, f r = ∑ b, ∑ y, ∑ x, f (pix (b, y, x)) := by
  rw [← pix.sum_comp, Fintype.sum_prod_type]
  simp only [Fintype.sum_prod_type]

/-- Finitely many values have a first smallest one. -/
theorem _root_.Cert.Spec.FirstMin.exists (f : Fin 512 → EReal) : ∃ k, FirstMin f k := by
  obtain ⟨i, hi⟩ := Finite.exists_min f
  have hne : (Finset.univ.filter fun k => f k = f i).Nonempty := ⟨i, by simp⟩
  have hm := Finset.min'_mem _ hne
  set k := Finset.min' _ hne with hk
  have e : f k = f i := (Finset.mem_filter.mp hm).2
  refine ⟨k, fun j => e ▸ hi j, fun j hj => lt_of_le_of_ne (e ▸ hi j) fun q => ?_⟩
  exact absurd (Finset.min'_le _ j (Finset.mem_filter.mpr ⟨Finset.mem_univ _, q.symm.trans e⟩))
    (not_le.mpr hj)

end Cert.KernelProof
-- ==== Proof.TileVq.lean ====
module

public import proofs.«01_k».proof.Proof.Gen.KernelIdeal.Frame.Region4
public import proofs.«01_k».proof.Proof.TileVqLem

/-!
What the quantising call stores: at every pixel the row of the codebook nearest to the pixel, and
the mean over the pixels of the squared distance to it.
-/

@[expose] public section

set_option maxRecDepth 16384

noncomputable section

namespace Cert.KernelProof

open Idealize.ShloMosaic Cert.KernelIdeal Cert.KernelIdeal.Gen
open Cert.Spec Cert.Split

section

variable (X : Vec Ideal S2048x64 .f32) (E : Vec Ideal S512x64 .f32) (T : Vec Ideal S64x512 .f32)
  (N : Vec Ideal S1x512 .f32) (Z : Img 64 16) (e : Fin 512 → Fin 64 → EReal) (hZ : Fin4 Z)
  (he : ∀ k c, fin1 (e k c))
  (hX : ∀ (r : Fin 2048) c, X (ix2 r c) =
    Z ⟨r / 256, by omega⟩ c ⟨r / 16 % 16, by omega⟩ ⟨r % 16, by omega⟩)
  (hE : ∀ k c, E (ix2 k c) = e k c) (hT : ∀ c k, T (ix2 c k) = e k c)
  (hN : ∀ k, N (ix2 0 k) = ∑ c, e k c * e k c)

include hZ hX in
theorem fnt_pix : Fnt (ι := S2048x64.Idx) X := by
  intro i
  obtain ⟨a, b, rfl⟩ : ∃ (a : Fin 2048) (b : Fin 64), i = ix2 a b :=
    ⟨i 0, i 1, by funext a; fin_cases a <;> rfl⟩
  rw [hX]
  exact hZ _ _ _ _

include he hE in
theorem fnt_book : Fnt (ι := S512x64.Idx) E := by
  intro i
  obtain ⟨a, b, rfl⟩ : ∃ (a : Fin 512) (b : Fin 64), i = ix2 a b :=
    ⟨i 0, i 1, by funext a; fin_cases a <;> rfl⟩
  rw [hE]
  exact he _ _

include he hT in
theorem fnt_bookT : Fnt (ι := S64x512.Idx) T := by
  intro i
  obtain ⟨a, b, rfl⟩ : ∃ (a : Fin 64) (b : Fin 512), i = ix2 a b :=
    ⟨i 0, i 1, by funext a; fin_cases a <;> rfl⟩
  rw [hT]
  exact he _ _

include hZ he hX hE hT hN in
/-- The stored row of a pixel is the codebook's row with the first smallest score. -/
theorem tile4_row (r : Fin 2048) (k : Fin 512)
    (hk : FirstMin (score Z e ⟨r / 256, by omega⟩ ⟨r / 16 % 16, by omega⟩ ⟨r % 16, by omega⟩) k)
    (o : Fin 64) : out4_4 X E T N (ix2 r o) = e k o := by
  have fX := fnt_pix X Z hZ hX
  have fE := fnt_book E e he hE
  have fT := fnt_bookT T e he hT
  have two : Ideal.ofBits FTy.f32 1073741824#32 = 2 := by
    simp [Ideal.ofBits, Ideal.ieee, -EReal.coe_mul]
    norm_num
    rfl
  unfold_out out4_4
  rw [View.canon_cons_unit_lit _ _ _ (by decide)]
  have e0 : View.ld X r4_0 = X := View.ld_unit_lit _ _ (by decide)
  have e1 : View.ld E r4_1 = E := View.ld_unit_lit _ _ (by decide)
  have e2 : View.ld N r4_2 = N := View.ld_unit_lit _ _ (by decide)
  have e3 : View.ld T r4_3 = T := View.ld_unit_lit _ _ (by decide)
  simp only [k4_pay1, k4_pay3, k4_pay4, e0, e1, e2, e3, shapeCast_self, constant_zero, truncf_zero,
    extf_zero, subf_zero, rem_zero fX, rem_zero fE, rem_zero fT, matmul_zero_right,
    matmul_zero_left, addf_zero_right, addf_zero_left]
  pointwise [zeroV]
  simp only [hX, hE, hT, hN, two]
  have sc : ∀ j, ∑ c, e j c * e j c -
      2 * ∑ c, Z ⟨r / 256, by omega⟩ c ⟨r / 16 % 16, by omega⟩ ⟨r % 16, by omega⟩ * e j c =
      score Z e ⟨r / 256, by omega⟩ ⟨r / 16 % 16, by omega⟩ ⟨r % 16, by omega⟩ j := fun _ => rfl
  simp only [sc]
  rw [fold_min hk, fold_minsi hk]
  simp only [oneHot_val, sum_oneHot]

/-- The stored loss, from the stored rows. -/
theorem tile4_mean : out4_5 X E T N (ix2 0 0) =
    Ideal.div (∑ r : Fin 2048, ∑ c : Fin 64, (X (ix2 r c) - out4_4 X E T N (ix2 r c)) *
      (X (ix2 r c) - out4_4 X E T N (ix2 r c))) (Ideal.ofBits FTy.f32 1157627904#32) := by
  unfold out4_5 out4_4
  rw [View.canon_cons_unit_lit _ _ _ (by decide), View.canon_cons_unit_lit _ _ _ (by decide)]
  have e0 : View.ld X r4_0 = X := View.ld_unit_lit _ _ (by decide)
  simp only [k4_pay2, k4_pay3, e0, shapeCast_self]
  pointwise

/-- The image, the row and the column of a stored row. -/
theorem pix_b (r : Fin 2048) : r.val / 256 < 8 := by omega
theorem pix_y (r : Fin 2048) : r.val / 16 % 16 < 16 := by omega
theorem pix_x (r : Fin 2048) : r.val % 16 < 16 := by omega

/-- The stored rows, one per pixel, hold an image. -/
def Holds (W : S2048x64.Idx → EReal) (Q : Img 64 16) : Prop :=
  ∀ (r : Fin 2048) o, W (ix2 r o) = Q ⟨r.val / 256, pix_b r⟩ o ⟨r.val / 16 % 16, pix_y r⟩ ⟨r.val % 16, pix_x r⟩

include hZ he hX hE hT hN in
/-- The quantising call stores an image of nearest rows, and the loss of that image. -/
theorem tile4_of_rows : ∃ Q : Img 64 16, IsQuant Z e Q ∧
    Holds (out4_4 X E T N) Q ∧ out4_5 X E T N (ix2 0 0) = loss Z Q := by
  have first : ∀ b y x, ∃ k, FirstMin (score Z e b y x) k := fun b y x => FirstMin.exists _
  choose K hK using first
  have row : ∀ (r : Fin 2048) o, out4_4 X E T N (ix2 r o) =
      e (K ⟨r / 256, by omega⟩ ⟨r / 16 % 16, by omega⟩ ⟨r % 16, by omega⟩) o := fun r o =>
    tile4_row X E T N Z e hZ he hX hE hT hN r _ (hK _ _ _) o
  refine ⟨fun b o y x => e (K b y x) o, fun b y x => ⟨K b y x, ?_, fun _ => rfl⟩, row, ?_⟩
  · exact (firstMin_score hZ he b y x _).mpr (hK b y x)
  · rw [tile4_mean, loss, sqDist]
    congr 1
    · rw [sum_pix]
      refine Finset.sum_congr rfl fun b _ => Finset.sum_congr rfl fun y _ =>
        Finset.sum_congr rfl fun x _ => Finset.sum_congr rfl fun c _ => ?_
      have p := pix_parts b y x
      simp only [row, hX, p.1, p.2.1, p.2.2]
    · simp [Ideal.ofBits, Ideal.ieee, -EReal.coe_mul]
      norm_num
      rfl

end

/-- The quantising call, of rows that hold an image of finite values. -/
theorem tile4 (X : Vec Ideal S2048x64 .f32) (E : Vec Ideal S512x64 .f32) (T : Vec Ideal S64x512 .f32) (N : Vec Ideal S1x512 .f32)
    (Z : Img 64 16) (e : Fin 512 → Fin 64 → EReal) (hZ : Fin4 Z) (he : ∀ k c, fin1 (e k c)) (hX : Holds X Z)
    (hE : ∀ k c, E (ix2 k c) = e k c) (hT : ∀ c k, T (ix2 c k) = e k c) (hN : ∀ k, N (ix2 0 k) = ∑ c, e k c * e k c) :
    ∃ Q : Img 64 16, IsQuant Z e Q ∧ Holds (out4_4 X E T N) Q ∧ out4_5 X E T N (ix2 0 0) = loss Z Q :=
  tile4_of_rows X E T N Z e hZ he hX hE hT hN

end Cert.KernelProof
-- ==== Proof.KernelEnc.lean ====
module

public import proofs.«01_k».proof.Proof.KernelArgs
public import proofs.«01_k».proof.Proof.HostPatch
public import proofs.«01_k».proof.Proof.HostPad
public import proofs.«01_k».proof.Proof.TileConv
public import proofs.«01_k».proof.Proof.TileRes
public import proofs.«01_k».proof.Proof.TileVq

/-! What the encoding calls leave, and the quantising call. -/

@[expose] public section

set_option maxRecDepth 16384

noncomputable section

namespace Cert.KernelProof

open Idealize.ShloMosaic Idealize.ShloMosaic.TcCoe Idealize.ShloMosaic.StableHlo Cert.KernelIdeal Cert.KernelIdeal.Gen
open Cert.Spec Cert.Split

variable (m : (ℓ : Loc nD τ sig) → Buf (Elt Ideal) ℓ) (ρ : Dev nD → PrngReg) (c : Dev nD)

/-- The image after the first and after the second convolution, and after the first block. -/
def kE1 : Img 64 32 := relu (conv 64 32 2 (k0 m c) (k2 m c))
def kE2 : Img 64 16 := relu (conv 64 16 2 (kE1 m c) (k3 m c))
def kE3 : Img 64 16 := resBlock (kE2 m c) (k4 m c) (k5 m c)

/-- The encoded image. -/
def kE4 : Img 64 16 := resBlock (kE3 m c) (k6 m c) (k7 m c)

/-- The encoder's arguments hold finite numbers. -/
structure Finite : Prop where
  h0 : Fin4 (k0 m c)
  h1 : ∀ k o, fin1 (k1 m c k o)
  h2 : Fin4 (k2 m c)
  h3 : Fin4 (k3 m c)
  h4 : Fin4 (k4 m c)
  h5 : Fin4 (k5 m c)
  h6 : Fin4 (k6 m c)
  h7 : Fin4 (k7 m c)

variable {m c}

theorem Finite.e1 (h : Finite m c) : Fin4 (kE1 m c) := (h.h0.conv 64 32 2 h.h2).relu
theorem Finite.e2 (h : Finite m c) : Fin4 (kE2 m c) := (h.e1.conv 64 16 2 h.h3).relu
theorem Finite.e3 (h : Finite m c) : Fin4 (kE3 m c) := h.e2.resBlock h.h4 h.h5
theorem Finite.e4 (h : Finite m c) : Fin4 (kE4 m c) := h.e3.resBlock h.h6 h.h7

/-- The first call leaves the first convolution. -/
theorem v50_val (hf : Finite m c) (r : Fin 8192) (o : Fin 64) :
    (W4 m ρ c (Proc.devRef .tc main_v50) : S8192x64.Idx → EReal) (ix2 r o) = kE1 m c ⟨r / 1024, by omega⟩ o ⟨r / 32 % 32, by omega⟩ ⟨r % 32, by omega⟩ := by
  refine (congrFun ((W4_arr m ρ c 2).trans (exit0_2 (V3 m ρ) c)) _).trans
    (tile0 _ _ (k0 m c) (k2 m c) hf.h0 hf.h2 (fun r k => ?_) (fun k o => ?_) r o)
  · exact (patches (W2 m ρ c) r k).trans (pad0 (k0 m c) (w_c _) (fun b y x i => w_v20 _ b y x i) _ _ _ _)
  · refine (w_v49 (W2 m ρ c) k o).trans ?_
    rw [W2_of m ρ c main_v0 (by decide +kernel)]
    exact w_v0 _ _ _ _ _

/-- The second call leaves the second convolution. -/
theorem v62_val (hf : Finite m c) (r : Fin 2048) (o : Fin 64) :
    (W8 m ρ c (Proc.devRef .tc main_v62) : S2048x64.Idx → EReal) (ix2 r o) = kE2 m c ⟨r / 256, by omega⟩ o ⟨r / 16 % 16, by omega⟩ ⟨r % 16, by omega⟩ := by
  have hp := planes1 (V := W6 m ρ c) (kE1 m c) fun b u v i => pad1 (V := W4 m ρ c) (kE1 m c) (v50_val ρ hf) b u v i
  refine (congrFun ((W8_arr m ρ c 5).trans (exit1_5 (V7 m ρ) c)) _).trans
    (tile1 _ _ _ _ _ (kE1 m c) (k3 m c) hf.e1 hf.h3 (fun b u v i => (hp b u v i).1) (fun b u v i => (hp b u v i).2.1)
      (fun b u v i => (hp b u v i).2.2.1) (fun b u v i => (hp b u v i).2.2.2) (fun i j a o => ?_) r o)
  exact (congrFun (laid7 m ρ c main_v1 (by decide)) _).trans (w_v1 _ _ _ _ _)

/-- The third call leaves the first block. -/
theorem v65_val (hf : Finite m c) (r : Fin 2048) (o : Fin 64) :
    (W11 m ρ c (Proc.devRef .tc main_v65) : S2048x64.Idx → EReal) (ix2 r o) = kE3 m c ⟨r / 256, by omega⟩ o ⟨r / 16 % 16, by omega⟩ ⟨r % 16, by omega⟩ := by
  refine (congrFun ((W11_arr m ρ c 3).trans (exit2_3 (V10 m ρ) c)) _).trans
    (tile2 _ _ _ (kE2 m c) (k4 m c) (k5 m c) hf.e2 hf.h4 hf.h5 (fun b u v i => ?_) (fun i j a o => ?_) (fun a o => ?_) r o)
  · exact pad2 (V := W8 m ρ c) (kE2 m c) (v62_val ρ hf) b u v i
  · exact (congrFun (laid10 m ρ c main_v2 (by decide)) _).trans (w_v2 _ _ _ _ _)
  · exact (congrFun (laid10 m ρ c main_v4 (by decide)) _).trans (w_v4 _ _ _)

/-- The fourth call leaves the encoded image. -/
theorem v68_val (hf : Finite m c) (r : Fin 2048) (o : Fin 64) :
    (W14 m ρ c (Proc.devRef .tc main_v68) : S2048x64.Idx → EReal) (ix2 r o) = kE4 m c ⟨r / 256, by omega⟩ o ⟨r / 16 % 16, by omega⟩ ⟨r % 16, by omega⟩ := by
  refine (congrFun ((W14_arr m ρ c 3).trans (exit3_3 (V13 m ρ) c)) _).trans
    (tile3 _ _ _ (kE3 m c) (k6 m c) (k7 m c) hf.e3 hf.h6 hf.h7 (fun b u v i => ?_) (fun i j a o => ?_) (fun a o => ?_) r o)
  · exact pad3 (V := W11 m ρ c) (kE3 m c) (v65_val ρ hf) b u v i
  · exact (congrFun (laid13 m ρ c main_v5 (by decide)) _).trans (w_v5 _ _ _ _ _)
  · exact (congrFun (laid13 m ρ c main_v7 (by decide)) _).trans (w_v7 _ _ _)

/-- The quantising call leaves the quantised image and its loss. -/
theorem v73_val (hf : Finite m c) : ∃ Q : Img 64 16, IsQuant (kE4 m c) (k1 m c) Q ∧
    Holds (W16 m ρ c (Proc.devRef .tc main_v73_0)) Q ∧
    (W16 m ρ c (Proc.devRef .tc main_v73_1) : S1x1.Idx → EReal) (ix2 0 0) = loss (kE4 m c) Q := by
  have a1 : W14 m ρ c (Proc.devRef .tc main_arg1) = m ((c : Thread nD τ).loc main_arg1) := W14_args m ρ c main_arg1 (by decide)
  have b1 : W15 m ρ c (Proc.devRef .tc main_arg1) = m ((c : Thread nD τ).loc main_arg1) := W15_args m ρ c main_arg1 (by decide)
  have h68 (r : Fin 2048) (o : Fin 64) : (W15 m ρ c (Proc.devRef .tc main_v68) : S2048x64.Idx → EReal) (ix2 r o) =
      kE4 m c ⟨r / 256, by omega⟩ o ⟨r / 16 % 16, by omega⟩ ⟨r % 16, by omega⟩ :=
    (congrFun (W15_of m ρ c main_v68 (by decide +kernel)) _).trans (v68_val ρ hf r o)
  refine (tile4 (V15 m ρ c main_v68) (V15 m ρ c main_arg1) (V15 m ρ c main_v69) (V15 m ρ c main_v72)
    (kE4 m c) (k1 m c) hf.e4 hf.h1
    h68
    (fun k o => congrFun b1 _)
    (fun o k => (w_v69 _ o k).trans (congrFun a1 _))
    (fun k => w_v72 (fun k o => congrFun a1 _) k)).imp fun Q h => ?_
  exact ⟨h.1, fun r o => (congrFun ((W16_arr m ρ c 4).trans (exit4_4 (V15 m ρ) c)) _).trans (h.2.1 r o),
    (congrFun ((W16_arr m ρ c 5).trans (exit4_5 (V15 m ρ) c)) _).trans h.2.2⟩

end Cert.KernelProof
-- ==== Proof.ExitDec.lean ====
module
public import proofs.«01_k».proof.Proof.Gen.KernelIdeal.Frame.Fold0
public import Idealize.ShloMosaic.Lib.Pipeline.ValueKit

/-! What each call's result arrays hold when the call ends, from its operand arrays: no call has a grid, so a block is the whole array and one write leaves the whole result. -/

@[expose] public section

set_option maxRecDepth 16384

noncomputable section

namespace Cert.KernelProof

open Idealize.ShloMosaic Idealize.ShloMosaic.TcCoe Idealize.ShloMosaic.StableHlo Cert.KernelIdeal Cert.KernelIdeal.Gen

variable (V : (c : Dev nD) → (b : Ref sig .tc) → Buf (Elt Ideal) ((c : Thread nD τ).loc b)) (c : Dev nD)

/-- Call 5 reads the whole of operand 0. -/
theorem blk5_0 (t : Fin cfg5.N) : iblk5 V c 0 t = V c main_v75 := by
  funext y
  exact congrArg (V c main_v75) (funext fun a => Fin.ext (Pipeline.Window.rect_emb_val_of_index_zero (cfg5.win 0) t a rfl y))

/-- Call 5 reads the whole of operand 1. -/
theorem blk5_1 (t : Fin cfg5.N) : iblk5 V c 1 t = V c main_v8 := by
  funext y
  exact congrArg (V c main_v8) (funext fun a => Fin.ext (Pipeline.Window.rect_emb_val_of_index_zero (cfg5.win 1) t a rfl y))

/-- Call 5 reads the whole of operand 2. -/
theorem blk5_2 (t : Fin cfg5.N) : iblk5 V c 2 t = V c main_v10 := by
  funext y
  exact congrArg (V c main_v10) (funext fun a => Fin.ext (Pipeline.Window.rect_emb_val_of_index_zero (cfg5.win 2) t a rfl y))

/-- Result 0 of call 5. -/
theorem exit5_3 : (dat5 V c).arrAt 3 cfg5.N = out5_3 (V c main_v75) (V c main_v8) (V c main_v10) := by
  refine (dat5 V c).arrAt_eq_of_covers 3 _ (by decide +kernel) fun t _ y => ?_
  blk_simp
  rw [after5_3, blk5_0, blk5_1, blk5_2]
  exact congrArg (out5_3 (V c main_v75) (V c main_v8) (V c main_v10)) (funext fun a =>
    Fin.ext (Pipeline.Window.rect_emb_val_of_index_zero (cfg5.win 3) t a rfl y).symm)

/-- Call 6 reads the whole of operand 0. -/
theorem blk6_0 (t : Fin cfg6.N) : iblk6 V c 0 t = V c main_v78 := by
  funext y
  exact congrArg (V c main_v78) (funext fun a => Fin.ext (Pipeline.Window.rect_emb_val_of_index_zero (cfg6.win 0) t a rfl y))

/-- Call 6 reads the whole of operand 1. -/
theorem blk6_1 (t : Fin cfg6.N) : iblk6 V c 1 t = V c main_v11 := by
  funext y
  exact congrArg (V c main_v11) (funext fun a => Fin.ext (Pipeline.Window.rect_emb_val_of_index_zero (cfg6.win 1) t a rfl y))

/-- Call 6 reads the whole of operand 2. -/
theorem blk6_2 (t : Fin cfg6.N) : iblk6 V c 2 t = V c main_v13 := by
  funext y
  exact congrArg (V c main_v13) (funext fun a => Fin.ext (Pipeline.Window.rect_emb_val_of_index_zero (cfg6.win 2) t a rfl y))

/-- Result 0 of call 6. -/
theorem exit6_3 : (dat6 V c).arrAt 3 cfg6.N = out6_3 (V c main_v78) (V c main_v11) (V c main_v13) := by
  refine (dat6 V c).arrAt_eq_of_covers 3 _ (by decide +kernel) fun t _ y => ?_
  blk_simp
  rw [after6_3, blk6_0, blk6_1, blk6_2]
  exact congrArg (out6_3 (V c main_v78) (V c main_v11) (V c main_v13)) (funext fun a =>
    Fin.ext (Pipeline.Window.rect_emb_val_of_index_zero (cfg6.win 3) t a rfl y).symm)

/-- Call 7 reads the whole of operand 0. -/
theorem blk7_0 (t : Fin cfg7.N) : iblk7 V c 0 t = V c main_v81 := by
  funext y
  exact congrArg (V c main_v81) (funext fun a => Fin.ext (Pipeline.Window.rect_emb_val_of_index_zero (cfg7.win 0) t a rfl y))

/-- Call 7 reads the whole of operand 1. -/
theorem blk7_1 (t : Fin cfg7.N) : iblk7 V c 1 t = V c main_v15 := by
  funext y
  exact congrArg (V c main_v15) (funext fun a => Fin.ext (Pipeline.Window.rect_emb_val_of_index_zero (cfg7.win 1) t a rfl y))

/-- Call 7 reads the whole of operand 2. -/
theorem blk7_2 (t : Fin cfg7.N) : iblk7 V c 2 t = V c main_v18 := by
  funext y
  exact congrArg (V c main_v18) (funext fun a => Fin.ext (Pipeline.Window.rect_emb_val_of_index_zero (cfg7.win 2) t a rfl y))

/-- Result 0 of call 7. -/
theorem exit7_3 : (dat7 V c).arrAt 3 cfg7.N = out7_3 (V c main_v81) (V c main_v15) (V c main_v18) := by
  refine (dat7 V c).arrAt_eq_of_covers 3 _ (by decide +kernel) fun t _ y => ?_
  blk_simp
  rw [after7_3, blk7_0, blk7_1, blk7_2]
  exact congrArg (out7_3 (V c main_v81) (V c main_v15) (V c main_v18)) (funext fun a =>
    Fin.ext (Pipeline.Window.rect_emb_val_of_index_zero (cfg7.win 3) t a rfl y).symm)

/-- Result 1 of call 7. -/
theorem exit7_4 : (dat7 V c).arrAt 4 cfg7.N = out7_4 (V c main_v81) (V c main_v15) (V c main_v18) := by
  refine (dat7 V c).arrAt_eq_of_covers 4 _ (by decide +kernel) fun t _ y => ?_
  blk_simp
  rw [after7_4, blk7_0, blk7_1, blk7_2]
  exact congrArg (out7_4 (V c main_v81) (V c main_v15) (V c main_v18)) (funext fun a =>
    Fin.ext (Pipeline.Window.rect_emb_val_of_index_zero (cfg7.win 4) t a rfl y).symm)

/-- Result 2 of call 7. -/
theorem exit7_5 : (dat7 V c).arrAt 5 cfg7.N = out7_5 (V c main_v81) (V c main_v15) (V c main_v18) := by
  refine (dat7 V c).arrAt_eq_of_covers 5 _ (by decide +kernel) fun t _ y => ?_
  blk_simp
  rw [after7_5, blk7_0, blk7_1, blk7_2]
  exact congrArg (out7_5 (V c main_v81) (V c main_v15) (V c main_v18)) (funext fun a =>
    Fin.ext (Pipeline.Window.rect_emb_val_of_index_zero (cfg7.win 5) t a rfl y).symm)

/-- Result 3 of call 7. -/
theorem exit7_6 : (dat7 V c).arrAt 6 cfg7.N = out7_6 (V c main_v81) (V c main_v15) (V c main_v18) := by
  refine (dat7 V c).arrAt_eq_of_covers 6 _ (by decide +kernel) fun t _ y => ?_
  blk_simp
  rw [after7_6, blk7_0, blk7_1, blk7_2]
  exact congrArg (out7_6 (V c main_v81) (V c main_v15) (V c main_v18)) (funext fun a =>
    Fin.ext (Pipeline.Window.rect_emb_val_of_index_zero (cfg7.win 6) t a rfl y).symm)

/-- Call 8 reads the whole of operand 0. -/
theorem blk8_0 (t : Fin cfg8.N) : iblk8 V c 0 t = V c main_v91 := by
  funext y
  exact congrArg (V c main_v91) (funext fun a => Fin.ext (Pipeline.Window.rect_emb_val_of_index_zero (cfg8.win 0) t a rfl y))

/-- Call 8 reads the whole of operand 1. -/
theorem blk8_1 (t : Fin cfg8.N) : iblk8 V c 1 t = V c main_v17 := by
  funext y
  exact congrArg (V c main_v17) (funext fun a => Fin.ext (Pipeline.Window.rect_emb_val_of_index_zero (cfg8.win 1) t a rfl y))

/-- Call 8 reads the whole of operand 2. -/
theorem blk8_2 (t : Fin cfg8.N) : iblk8 V c 2 t = V c main_v19 := by
  funext y
  exact congrArg (V c main_v19) (funext fun a => Fin.ext (Pipeline.Window.rect_emb_val_of_index_zero (cfg8.win 2) t a rfl y))

/-- Result 0 of call 8. -/
theorem exit8_3 : (dat8 V c).arrAt 3 cfg8.N = out8_3 (V c main_v91) (V c main_v17) (V c main_v19) := by
  refine (dat8 V c).arrAt_eq_of_covers 3 _ (by decide +kernel) fun t _ y => ?_
  blk_simp
  rw [after8_3, blk8_0, blk8_1, blk8_2]
  exact congrArg (out8_3 (V c main_v91) (V c main_v17) (V c main_v19)) (funext fun a =>
    Fin.ext (Pipeline.Window.rect_emb_val_of_index_zero (cfg8.win 3) t a rfl y).symm)

/-- Result 1 of call 8. -/
theorem exit8_4 : (dat8 V c).arrAt 4 cfg8.N = out8_4 (V c main_v91) (V c main_v17) (V c main_v19) := by
  refine (dat8 V c).arrAt_eq_of_covers 4 _ (by decide +kernel) fun t _ y => ?_
  blk_simp
  rw [after8_4, blk8_0, blk8_1, blk8_2]
  exact congrArg (out8_4 (V c main_v91) (V c main_v17) (V c main_v19)) (funext fun a =>
    Fin.ext (Pipeline.Window.rect_emb_val_of_index_zero (cfg8.win 4) t a rfl y).symm)

/-- Result 2 of call 8. -/
theorem exit8_5 : (dat8 V c).arrAt 5 cfg8.N = out8_5 (V c main_v91) (V c main_v17) (V c main_v19) := by
  refine (dat8 V c).arrAt_eq_of_covers 5 _ (by decide +kernel) fun t _ y => ?_
  blk_simp
  rw [after8_5, blk8_0, blk8_1, blk8_2]
  exact congrArg (out8_5 (V c main_v91) (V c main_v17) (V c main_v19)) (funext fun a =>
    Fin.ext (Pipeline.Window.rect_emb_val_of_index_zero (cfg8.win 5) t a rfl y).symm)

/-- Result 3 of call 8. -/
theorem exit8_6 : (dat8 V c).arrAt 6 cfg8.N = out8_6 (V c main_v91) (V c main_v17) (V c main_v19) := by
  refine (dat8 V c).arrAt_eq_of_covers 6 _ (by decide +kernel) fun t _ y => ?_
  blk_simp
  rw [after8_6, blk8_0, blk8_1, blk8_2]
  exact congrArg (out8_6 (V c main_v91) (V c main_v17) (V c main_v19)) (funext fun a =>
    Fin.ext (Pipeline.Window.rect_emb_val_of_index_zero (cfg8.win 6) t a rfl y).symm)

end Cert.KernelProof
-- ==== Proof.HostWeave.lean ====
module

public import proofs.«01_k».proof.Proof.HostRead

/-! The four results of a transposed convolution, one for each parity of row and column, woven into one image. -/

@[expose] public section

set_option maxRecDepth 16384

noncomputable section

namespace Cert.KernelProof

open Idealize.ShloMosaic Idealize.ShloMosaic.StableHlo Cert.KernelIdeal Cert.KernelIdeal.Gen
open Cert.Spec

/-- The image of the first transposed convolution. -/
theorem weave8 {V : Valuation τ sig (Elt Ideal)} (D : Img 64 32)
    (h00 : ∀ (r : Fin 2048) (o : Fin 64), (V (Proc.devRef .tc main_v82_0) : S2048x64.Idx → EReal) (ix2 r o)
      = D ⟨r / 256, by omega⟩ o ⟨2 * (r / 16 % 16) + 0, by omega⟩ ⟨2 * (r % 16) + 0, by omega⟩)
    (h01 : ∀ (r : Fin 2048) (o : Fin 64), (V (Proc.devRef .tc main_v82_1) : S2048x64.Idx → EReal) (ix2 r o)
      = D ⟨r / 256, by omega⟩ o ⟨2 * (r / 16 % 16) + 0, by omega⟩ ⟨2 * (r % 16) + 1, by omega⟩)
    (h10 : ∀ (r : Fin 2048) (o : Fin 64), (V (Proc.devRef .tc main_v82_2) : S2048x64.Idx → EReal) (ix2 r o)
      = D ⟨r / 256, by omega⟩ o ⟨2 * (r / 16 % 16) + 1, by omega⟩ ⟨2 * (r % 16) + 0, by omega⟩)
    (h11 : ∀ (r : Fin 2048) (o : Fin 64), (V (Proc.devRef .tc main_v82_3) : S2048x64.Idx → EReal) (ix2 r o)
      = D ⟨r / 256, by omega⟩ o ⟨2 * (r / 16 % 16) + 1, by omega⟩ ⟨2 * (r % 16) + 1, by omega⟩)
    (b : Fin 8) (y x : Fin 32) (c : Fin 64) :
    (after hostOps8 V (Proc.devRef .tc main_v90) : S8x32x32x64.Idx → EReal) (ix4 b y x c) = D b c y x := by
  unfold hostOps8
  after_reads_simp
  pointwise
  after_reads_simp
  pointwise
  by_cases e0 : y.val % 2 * 2 + x.val % 2 < 1
  · rw [dif_pos e0, h00]
    exact at_img D (by simp; omega) rfl (by simp; omega) (by simp; omega)
  rw [dif_neg e0]
  by_cases e1 : y.val % 2 * 2 + x.val % 2 - 1 < 1
  · rw [dif_pos e1, h01]
    exact at_img D (by simp; omega) rfl (by simp; omega) (by simp; omega)
  rw [dif_neg e1]
  by_cases e2 : y.val % 2 * 2 + x.val % 2 - 1 - 1 < 1
  · rw [dif_pos e2, h10]
    exact at_img D (by simp; omega) rfl (by simp; omega) (by simp; omega)
  rw [dif_neg e2, h11]
  exact at_img D (by simp; omega) rfl (by simp; omega) (by simp; omega)

/-- The decoded image. -/
theorem weave9 {V : Valuation τ sig (Elt Ideal)} (D : Img 3 64)
    (h00 : ∀ (r : Fin 8192) (o : Fin 3), (V (Proc.devRef .tc main_v92_0) : S8192x3.Idx → EReal) (ix2 r o)
      = D ⟨r / 1024, by omega⟩ o ⟨2 * (r / 32 % 32) + 0, by omega⟩ ⟨2 * (r % 32) + 0, by omega⟩)
    (h01 : ∀ (r : Fin 8192) (o : Fin 3), (V (Proc.devRef .tc main_v92_1) : S8192x3.Idx → EReal) (ix2 r o)
      = D ⟨r / 1024, by omega⟩ o ⟨2 * (r / 32 % 32) + 0, by omega⟩ ⟨2 * (r % 32) + 1, by omega⟩)
    (h10 : ∀ (r : Fin 8192) (o : Fin 3), (V (Proc.devRef .tc main_v92_2) : S8192x3.Idx → EReal) (ix2 r o)
      = D ⟨r / 1024, by omega⟩ o ⟨2 * (r / 32 % 32) + 1, by omega⟩ ⟨2 * (r % 32) + 0, by omega⟩)
    (h11 : ∀ (r : Fin 8192) (o : Fin 3), (V (Proc.devRef .tc main_v92_3) : S8192x3.Idx → EReal) (ix2 r o)
      = D ⟨r / 1024, by omega⟩ o ⟨2 * (r / 32 % 32) + 1, by omega⟩ ⟨2 * (r % 32) + 1, by omega⟩)
    (b : Fin 8) (y x : Fin 64) (c : Fin 3) :
    (after hostOps9 V (Proc.devRef .tc main_v101) : S8x3x64x64.Idx → EReal) (ix4 b c y x) = D b c y x := by
  unfold hostOps9
  after_reads_simp
  pointwise
  after_reads_simp
  pointwise
  by_cases e0 : y.val % 2 * 2 + x.val % 2 < 1
  · rw [dif_pos e0, h00]
    exact at_img D (by simp; omega) rfl (by simp; omega) (by simp; omega)
  rw [dif_neg e0]
  by_cases e1 : y.val % 2 * 2 + x.val % 2 - 1 < 1
  · rw [dif_pos e1, h01]
    exact at_img D (by simp; omega) rfl (by simp; omega) (by simp; omega)
  rw [dif_neg e1]
  by_cases e2 : y.val % 2 * 2 + x.val % 2 - 1 - 1 < 1
  · rw [dif_pos e2, h10]
    exact at_img D (by simp; omega) rfl (by simp; omega) (by simp; omega)
  rw [dif_neg e2, h11]
  exact at_img D (by simp; omega) rfl (by simp; omega) (by simp; omega)

/-- The bordered image of the first transposed convolution. -/
theorem pad8 {V : Valuation τ sig (Elt Ideal)} (Z : Img 64 32)
    (hc : (V (Proc.devRef .tc main_c_6) : S_.Idx → BitVec 32) = constantI S_ 32 0#32)
    (h : ∀ b y x c, (V (Proc.devRef .tc main_v90) : S8x32x32x64.Idx → EReal) (ix4 b y x c) = Z b c y x)
    (b : Fin 8) (u v : Fin 34) (c : Fin 64) :
    (after hostOps8_1 V (Proc.devRef .tc main_v91) : S8x34x34x64.Idx → EReal) (ix4 b u v c) = rd2 (Z b c) u v := by
  unfold hostOps8_1
  after_reads_simp
  rw [hc]
  exact padded32 _ Z h b u v c

/-- The integer zero that fills that border. -/
theorem w_c6 (V : Valuation τ sig (Elt Ideal)) :
    (after hostOps8 V (Proc.devRef .tc main_c_6) : S_.Idx → BitVec 32) = constantI S_ 32 0#32 := by
  unfold hostOps8
  after_reads_simp

end Cert.KernelProof
-- ==== Proof.TileDec.lean ====
module

public import proofs.«01_k».proof.Proof.Gen.KernelIdeal.Frame.Region7
public import proofs.«01_k».proof.Proof.Gen.KernelIdeal.Frame.Region8
public import proofs.«01_k».proof.Proof.SpecTaps
public import proofs.«01_k».proof.Proof.SpecFin
public import Idealize.ShloMosaic.Lib.Pipeline.ValueKit

/-!
What one call of a transposed convolution stores: its four outputs are the four parities of rows
and columns of the result image.
-/

@[expose] public section

set_option maxRecDepth 16384

noncomputable section

namespace Cert.KernelProof

open Idealize.ShloMosaic Cert.KernelIdeal Cert.KernelIdeal.Gen
open Cert.Spec Cert.Split

/-- The output at row parity 0 and column parity 0. -/
theorem tile7_00 (X : Vec Ideal S8x18x18x64 .f32) (W : Vec Ideal S4x4x64x64 .f32)
    (B : Vec Ideal S1x64 .f32) (Z : Img 64 16) (w : Fil 64 64 4) (bias : Fin 64 → EReal)
    (hX : ∀ b (u v : Fin 18) c, X (ix4 b u v c) = rd2 (Z b c) u v)
    (hW : ∀ i j c o, W (ix4 i j c o) = w c o ⟨3 - i, by omega⟩ ⟨3 - j, by omega⟩)
    (hB : ∀ o, B (ix2 0 o) = bias o) (r : Fin 2048) (o : Fin 64) :
    out7_3 X W B (ix2 r o) =
      relu (deconv 64 32 Z w bias) ⟨r / 256, by omega⟩ o ⟨2 * (r / 16 % 16) + 0, by omega⟩
        ⟨2 * (r % 16) + 0, by omega⟩ := by
  have h := deconv_taps (m := 32) rfl Z w bias ⟨r / 256, by omega⟩ o ⟨r / 16 % 16, by omega⟩
    ⟨r % 16, by omega⟩ 0 0
  refine Eq.trans ?_ (congrArg (fun v => max v 0) h.symm)
  unfold out7_3
  rw [View.canon_cons_unit_lit _ _ _ (by decide)]
  pointwise [k7_pay3, k7_pay2]
  simp only [hX, hW, hB, Fin.val_zero, Fin.val_one, Nat.zero_add]
  rfl

/-- The output at row parity 0 and column parity 1. -/
theorem tile7_01 (X : Vec Ideal S8x18x18x64 .f32) (W : Vec Ideal S4x4x64x64 .f32)
    (B : Vec Ideal S1x64 .f32) (Z : Img 64 16) (w : Fil 64 64 4) (bias : Fin 64 → EReal)
    (hX : ∀ b (u v : Fin 18) c, X (ix4 b u v c) = rd2 (Z b c) u v)
    (hW : ∀ i j c o, W (ix4 i j c o) = w c o ⟨3 - i, by omega⟩ ⟨3 - j, by omega⟩)
    (hB : ∀ o, B (ix2 0 o) = bias o) (r : Fin 2048) (o : Fin 64) :
    out7_4 X W B (ix2 r o) =
      relu (deconv 64 32 Z w bias) ⟨r / 256, by omega⟩ o ⟨2 * (r / 16 % 16) + 0, by omega⟩
        ⟨2 * (r % 16) + 1, by omega⟩ := by
  have h := deconv_taps (m := 32) rfl Z w bias ⟨r / 256, by omega⟩ o ⟨r / 16 % 16, by omega⟩
    ⟨r % 16, by omega⟩ 0 1
  refine Eq.trans ?_ (congrArg (fun v => max v 0) h.symm)
  unfold out7_4
  rw [View.canon_cons_unit_lit _ _ _ (by decide)]
  pointwise [k7_pay5, k7_pay4]
  simp only [hX, hW, hB, Fin.val_zero, Fin.val_one, Nat.zero_add]
  rfl

/-- The output at row parity 1 and column parity 0. -/
theorem tile7_10 (X : Vec Ideal S8x18x18x64 .f32) (W : Vec Ideal S4x4x64x64 .f32)
    (B : Vec Ideal S1x64 .f32) (Z : Img 64 16) (w : Fil 64 64 4) (bias : Fin 64 → EReal)
    (hX : ∀ b (u v : Fin 18) c, X (ix4 b u v c) = rd2 (Z b c) u v)
    (hW : ∀ i j c o, W (ix4 i j c o) = w c o ⟨3 - i, by omega⟩ ⟨3 - j, by omega⟩)
    (hB : ∀ o, B (ix2 0 o) = bias o) (r : Fin 2048) (o : Fin 64) :
    out7_5 X W B (ix2 r o) =
      relu (deconv 64 32 Z w bias) ⟨r / 256, by omega⟩ o ⟨2 * (r / 16 % 16) + 1, by omega⟩
        ⟨2 * (r % 16) + 0, by omega⟩ := by
  have h := deconv_taps (m := 32) rfl Z w bias ⟨r / 256, by omega⟩ o ⟨r / 16 % 16, by omega⟩
    ⟨r % 16, by omega⟩ 1 0
  refine Eq.trans ?_ (congrArg (fun v => max v 0) h.symm)
  unfold out7_5
  rw [View.canon_cons_unit_lit _ _ _ (by decide)]
  pointwise [k7_pay9, k7_pay6, k7_pay7, k7_pay8]
  simp only [hX, hW, hB, Fin.val_zero, Fin.val_one, Nat.zero_add]
  rfl

/-- The output at row parity 1 and column parity 1. -/
theorem tile7_11 (X : Vec Ideal S8x18x18x64 .f32) (W : Vec Ideal S4x4x64x64 .f32)
    (B : Vec Ideal S1x64 .f32) (Z : Img 64 16) (w : Fil 64 64 4) (bias : Fin 64 → EReal)
    (hX : ∀ b (u v : Fin 18) c, X (ix4 b u v c) = rd2 (Z b c) u v)
    (hW : ∀ i j c o, W (ix4 i j c o) = w c o ⟨3 - i, by omega⟩ ⟨3 - j, by omega⟩)
    (hB : ∀ o, B (ix2 0 o) = bias o) (r : Fin 2048) (o : Fin 64) :
    out7_6 X W B (ix2 r o) =
      relu (deconv 64 32 Z w bias) ⟨r / 256, by omega⟩ o ⟨2 * (r / 16 % 16) + 1, by omega⟩
        ⟨2 * (r % 16) + 1, by omega⟩ := by
  have h := deconv_taps (m := 32) rfl Z w bias ⟨r / 256, by omega⟩ o ⟨r / 16 % 16, by omega⟩
    ⟨r % 16, by omega⟩ 1 1
  refine Eq.trans ?_ (congrArg (fun v => max v 0) h.symm)
  unfold out7_6
  rw [View.canon_cons_unit_lit _ _ _ (by decide)]
  pointwise [k7_pay1, k7_pay11, k7_pay10, k7_pay12]
  simp only [hX, hW, hB, Fin.val_zero, Fin.val_one, Nat.zero_add]
  rfl

/-- The output at row parity 0 and column parity 0. -/
theorem tile8_00 (X : Vec Ideal S8x34x34x64 .f32) (W : Vec Ideal S4x4x64x3 .f32)
    (B : Vec Ideal S1x3 .f32) (Z : Img 64 32) (w : Fil 64 3 4) (bias : Fin 3 → EReal)
    (hX : ∀ b (u v : Fin 34) c, X (ix4 b u v c) = rd2 (Z b c) u v)
    (hW : ∀ i j c o, W (ix4 i j c o) = w c o ⟨3 - i, by omega⟩ ⟨3 - j, by omega⟩)
    (hB : ∀ o, B (ix2 0 o) = bias o) (r : Fin 8192) (o : Fin 3) :
    out8_3 X W B (ix2 r o) =
      sigm (deconv 3 64 Z w bias) ⟨r / 1024, by omega⟩ o ⟨2 * (r / 32 % 32) + 0, by omega⟩
        ⟨2 * (r % 32) + 0, by omega⟩ := by
  have h := deconv_taps (m := 64) rfl Z w bias ⟨r / 1024, by omega⟩ o ⟨r / 32 % 32, by omega⟩
    ⟨r % 32, by omega⟩ 0 0
  refine Eq.trans ?_ (congrArg Ideal.logistic h.symm)
  unfold out8_3
  rw [View.canon_cons_unit_lit _ _ _ (by decide)]
  pointwise [k8_pay3, k8_pay2]
  simp only [hX, hW, hB, Fin.val_zero, Fin.val_one, Nat.zero_add]
  rfl

/-- The output at row parity 0 and column parity 1. -/
theorem tile8_01 (X : Vec Ideal S8x34x34x64 .f32) (W : Vec Ideal S4x4x64x3 .f32)
    (B : Vec Ideal S1x3 .f32) (Z : Img 64 32) (w : Fil 64 3 4) (bias : Fin 3 → EReal)
    (hX : ∀ b (u v : Fin 34) c, X (ix4 b u v c) = rd2 (Z b c) u v)
    (hW : ∀ i j c o, W (ix4 i j c o) = w c o ⟨3 - i, by omega⟩ ⟨3 - j, by omega⟩)
    (hB : ∀ o, B (ix2 0 o) = bias o) (r : Fin 8192) (o : Fin 3) :
    out8_4 X W B (ix2 r o) =
      sigm (deconv 3 64 Z w bias) ⟨r / 1024, by omega⟩ o ⟨2 * (r / 32 % 32) + 0, by omega⟩
        ⟨2 * (r % 32) + 1, by omega⟩ := by
  have h := deconv_taps (m := 64) rfl Z w bias ⟨r / 1024, by omega⟩ o ⟨r / 32 % 32, by omega⟩
    ⟨r % 32, by omega⟩ 0 1
  refine Eq.trans ?_ (congrArg Ideal.logistic h.symm)
  unfold out8_4
  rw [View.canon_cons_unit_lit _ _ _ (by decide)]
  pointwise [k8_pay5, k8_pay4]
  simp only [hX, hW, hB, Fin.val_zero, Fin.val_one, Nat.zero_add]
  rfl

/-- The output at row parity 1 and column parity 0. -/
theorem tile8_10 (X : Vec Ideal S8x34x34x64 .f32) (W : Vec Ideal S4x4x64x3 .f32)
    (B : Vec Ideal S1x3 .f32) (Z : Img 64 32) (w : Fil 64 3 4) (bias : Fin 3 → EReal)
    (hX : ∀ b (u v : Fin 34) c, X (ix4 b u v c) = rd2 (Z b c) u v)
    (hW : ∀ i j c o, W (ix4 i j c o) = w c o ⟨3 - i, by omega⟩ ⟨3 - j, by omega⟩)
    (hB : ∀ o, B (ix2 0 o) = bias o) (r : Fin 8192) (o : Fin 3) :
    out8_5 X W B (ix2 r o) =
      sigm (deconv 3 64 Z w bias) ⟨r / 1024, by omega⟩ o ⟨2 * (r / 32 % 32) + 1, by omega⟩
        ⟨2 * (r % 32) + 0, by omega⟩ := by
  have h := deconv_taps (m := 64) rfl Z w bias ⟨r / 1024, by omega⟩ o ⟨r / 32 % 32, by omega⟩
    ⟨r % 32, by omega⟩ 1 0
  refine Eq.trans ?_ (congrArg Ideal.logistic h.symm)
  unfold out8_5
  rw [View.canon_cons_unit_lit _ _ _ (by decide)]
  pointwise [k8_pay7, k8_pay6]
  simp only [hX, hW, hB, Fin.val_zero, Fin.val_one, Nat.zero_add]
  rfl

/-- The output at row parity 1 and column parity 1. -/
theorem tile8_11 (X : Vec Ideal S8x34x34x64 .f32) (W : Vec Ideal S4x4x64x3 .f32)
    (B : Vec Ideal S1x3 .f32) (Z : Img 64 32) (w : Fil 64 3 4) (bias : Fin 3 → EReal)
    (hX : ∀ b (u v : Fin 34) c, X (ix4 b u v c) = rd2 (Z b c) u v)
    (hW : ∀ i j c o, W (ix4 i j c o) = w c o ⟨3 - i, by omega⟩ ⟨3 - j, by omega⟩)
    (hB : ∀ o, B (ix2 0 o) = bias o) (r : Fin 8192) (o : Fin 3) :
    out8_6 X W B (ix2 r o) =
      sigm (deconv 3 64 Z w bias) ⟨r / 1024, by omega⟩ o ⟨2 * (r / 32 % 32) + 1, by omega⟩
        ⟨2 * (r % 32) + 1, by omega⟩ := by
  have h := deconv_taps (m := 64) rfl Z w bias ⟨r / 1024, by omega⟩ o ⟨r / 32 % 32, by omega⟩
    ⟨r % 32, by omega⟩ 1 1
  refine Eq.trans ?_ (congrArg Ideal.logistic h.symm)
  unfold out8_6
  rw [View.canon_cons_unit_lit _ _ _ (by decide)]
  pointwise [k8_pay1, k8_pay9, k8_pay8, k8_pay10, k8_pay11]
  simp only [hX, hW, hB, Fin.val_zero, Fin.val_one, Nat.zero_add]
  rfl

end Cert.KernelProof
-- ==== Proof.KernelDec.lean ====
module

public import proofs.«01_k».proof.Proof.KernelEnc
public import proofs.«01_k».proof.Proof.ExitDec
public import proofs.«01_k».proof.Proof.HostWeave
public import proofs.«01_k».proof.Proof.TileDec

/-! What the decoding calls leave, and the results of the kernel. -/

@[expose] public section

set_option maxRecDepth 16384

noncomputable section

namespace Cert.KernelProof

open Idealize.ShloMosaic Idealize.ShloMosaic.TcCoe Idealize.ShloMosaic.StableHlo Cert.KernelIdeal Cert.KernelIdeal.Gen
open Cert.Spec Cert.Split

variable (m : (ℓ : Loc nD τ sig) → Buf (Elt Ideal) ℓ) (ρ : Dev nD → PrngReg) (c : Dev nD)

/-- The quantised image after each decoding block, and after the first transposed convolution. -/
def kD1 (Q : Img 64 16) : Img 64 16 := resBlock Q (k8 m c) (k9 m c)
def kD2 (Q : Img 64 16) : Img 64 16 := resBlock (kD1 m c Q) (k10 m c) (k11 m c)
def kD3 (Q : Img 64 16) : Img 64 32 := relu (deconv 64 32 (kD2 m c Q) (k12 m c) (k13 m c))

/-- The decoded image. -/
def kD4 (Q : Img 64 16) : Img 3 64 := sigm (deconv 3 64 (kD3 m c Q) (k14 m c) (k15 m c))

variable {m c}
variable {Q : Img 64 16} (hQ : Holds (W16 m ρ c (Proc.devRef .tc main_v73_0)) Q)
include hQ

/-- The sixth call leaves the first decoding block. -/
theorem v76_val (r : Fin 2048) (o : Fin 64) :
    (W19 m ρ c (Proc.devRef .tc main_v76) : S2048x64.Idx → EReal) (ix2 r o) = kD1 m c Q ⟨r / 256, by omega⟩ o ⟨r / 16 % 16, by omega⟩ ⟨r % 16, by omega⟩ := by
  refine (congrFun ((W19_arr m ρ c 3).trans (exit5_3 (V18 m ρ) c)) _).trans
    (tile5 _ _ _ (Q) (k8 m c) (k9 m c) (fun b u v i => ?_) (fun i j a o => ?_) (fun a o => ?_) r o)
  · exact pad5 (V := W16 m ρ c) (Q) (hQ) b u v i
  · exact (congrFun (laid18 m ρ c main_v8 (by decide)) _).trans (w_v8 _ _ _ _ _)
  · exact (congrFun (laid18 m ρ c main_v10 (by decide)) _).trans (w_v10 _ _ _)

/-- The seventh call leaves the second decoding block. -/
theorem v79_val (r : Fin 2048) (o : Fin 64) :
    (W22 m ρ c (Proc.devRef .tc main_v79) : S2048x64.Idx → EReal) (ix2 r o) = kD2 m c Q ⟨r / 256, by omega⟩ o ⟨r / 16 % 16, by omega⟩ ⟨r % 16, by omega⟩ := by
  refine (congrFun ((W22_arr m ρ c 3).trans (exit6_3 (V21 m ρ) c)) _).trans
    (tile6 _ _ _ (kD1 m c Q) (k10 m c) (k11 m c) (fun b u v i => ?_) (fun i j a o => ?_) (fun a o => ?_) r o)
  · exact pad6 (V := W19 m ρ c) (kD1 m c Q) (v76_val ρ hQ) b u v i
  · exact (congrFun (laid21 m ρ c main_v11 (by decide)) _).trans (w_v11 _ _ _ _ _)
  · exact (congrFun (laid21 m ρ c main_v13 (by decide)) _).trans (w_v13 _ _ _)

/-- The rows of parity 0 and columns of parity 0 of the first transposed convolution. -/
theorem v82_0_val (r : Fin 2048) (o : Fin 64) :
    (W25 m ρ c (Proc.devRef .tc main_v82_0) : S2048x64.Idx → EReal) (ix2 r o)
      = kD3 m c Q ⟨r / 256, by omega⟩ o ⟨2 * (r / 16 % 16) + 0, by omega⟩ ⟨2 * (r % 16) + 0, by omega⟩ := by
  refine (congrFun ((W25_arr m ρ c 3).trans (exit7_3 (V24 m ρ) c)) _).trans
    (tile7_00 _ _ _ (kD2 m c Q) (k12 m c) (k13 m c) (fun b u v i => ?_) (fun i j a o => ?_) (fun o => ?_) r o)
  · exact pad7 (V := W22 m ρ c) (kD2 m c Q) (v79_val ρ hQ) b u v i
  · exact (congrFun (laid24 m ρ c main_v15 (by decide)) _).trans (w_v15 _ _ _ _ _)
  · exact (congrFun (laid24 m ρ c main_v18 (by decide)) _).trans (w_v18 _ _)

/-- The rows of parity 0 and columns of parity 1 of the first transposed convolution. -/
theorem v82_1_val (r : Fin 2048) (o : Fin 64) :
    (W25 m ρ c (Proc.devRef .tc main_v82_1) : S2048x64.Idx → EReal) (ix2 r o)
      = kD3 m c Q ⟨r / 256, by omega⟩ o ⟨2 * (r / 16 % 16) + 0, by omega⟩ ⟨2 * (r % 16) + 1, by omega⟩ := by
  refine (congrFun ((W25_arr m ρ c 4).trans (exit7_4 (V24 m ρ) c)) _).trans
    (tile7_01 _ _ _ (kD2 m c Q) (k12 m c) (k13 m c) (fun b u v i => ?_) (fun i j a o => ?_) (fun o => ?_) r o)
  · exact pad7 (V := W22 m ρ c) (kD2 m c Q) (v79_val ρ hQ) b u v i
  · exact (congrFun (laid24 m ρ c main_v15 (by decide)) _).trans (w_v15 _ _ _ _ _)
  · exact (congrFun (laid24 m ρ c main_v18 (by decide)) _).trans (w_v18 _ _)

/-- The rows of parity 1 and columns of parity 0 of the first transposed convolution. -/
theorem v82_2_val (r : Fin 2048) (o : Fin 64) :
    (W25 m ρ c (Proc.devRef .tc main_v82_2) : S2048x64.Idx → EReal) (ix2 r o)
      = kD3 m c Q ⟨r / 256, by omega⟩ o ⟨2 * (r / 16 % 16) + 1, by omega⟩ ⟨2 * (r % 16) + 0, by omega⟩ := by
  refine (congrFun ((W25_arr m ρ c 5).trans (exit7_5 (V24 m ρ) c)) _).trans
    (tile7_10 _ _ _ (kD2 m c Q) (k12 m c) (k13 m c) (fun b u v i => ?_) (fun i j a o => ?_) (fun o => ?_) r o)
  · exact pad7 (V := W22 m ρ c) (kD2 m c Q) (v79_val ρ hQ) b u v i
  · exact (congrFun (laid24 m ρ c main_v15 (by decide)) _).trans (w_v15 _ _ _ _ _)
  · exact (congrFun (laid24 m ρ c main_v18 (by decide)) _).trans (w_v18 _ _)

/-- The rows of parity 1 and columns of parity 1 of the first transposed convolution. -/
theorem v82_3_val (r : Fin 2048) (o : Fin 64) :
    (W25 m ρ c (Proc.devRef .tc main_v82_3) : S2048x64.Idx → EReal) (ix2 r o)
      = kD3 m c Q ⟨r / 256, by omega⟩ o ⟨2 * (r / 16 % 16) + 1, by omega⟩ ⟨2 * (r % 16) + 1, by omega⟩ := by
  refine (congrFun ((W25_arr m ρ c 6).trans (exit7_6 (V24 m ρ) c)) _).trans
    (tile7_11 _ _ _ (kD2 m c Q) (k12 m c) (k13 m c) (fun b u v i => ?_) (fun i j a o => ?_) (fun o => ?_) r o)
  · exact pad7 (V := W22 m ρ c) (kD2 m c Q) (v79_val ρ hQ) b u v i
  · exact (congrFun (laid24 m ρ c main_v15 (by decide)) _).trans (w_v15 _ _ _ _ _)
  · exact (congrFun (laid24 m ρ c main_v18 (by decide)) _).trans (w_v18 _ _)

/-- The image of the first transposed convolution. -/
theorem v90_val (b : Fin 8) (y x : Fin 32) (o : Fin 64) :
    (W26 m ρ c (Proc.devRef .tc main_v90) : S8x32x32x64.Idx → EReal) (ix4 b y x o) = kD3 m c Q b o y x :=
  weave8 (V := W25 m ρ c) (kD3 m c Q) (v82_0_val ρ hQ) (v82_1_val ρ hQ) (v82_2_val ρ hQ) (v82_3_val ρ hQ) b y x o

/-- The rows of parity 0 and columns of parity 0 of the second transposed convolution. -/
theorem v92_0_val (r : Fin 8192) (o : Fin 3) :
    (W28 m ρ c (Proc.devRef .tc main_v92_0) : S8192x3.Idx → EReal) (ix2 r o)
      = kD4 m c Q ⟨r / 1024, by omega⟩ o ⟨2 * (r / 32 % 32) + 0, by omega⟩ ⟨2 * (r % 32) + 0, by omega⟩ := by
  refine (congrFun ((W28_arr m ρ c 3).trans (exit8_3 (V27 m ρ) c)) _).trans
    (tile8_00 _ _ _ (kD3 m c Q) (k14 m c) (k15 m c) (fun b u v i => ?_) (fun i j a o => ?_) (fun o => ?_) r o)
  · exact pad8 (V := W26 m ρ c) (kD3 m c Q) (w_c6 _) (v90_val ρ hQ) b u v i
  · exact (congrFun (laid27 m ρ c main_v17 (by decide)) _).trans (w_v17 _ _ _ _ _)
  · exact (congrFun (laid27 m ρ c main_v19 (by decide)) _).trans (w_v19 _ _)

/-- The rows of parity 0 and columns of parity 1 of the second transposed convolution. -/
theorem v92_1_val (r : Fin 8192) (o : Fin 3) :
    (W28 m ρ c (Proc.devRef .tc main_v92_1) : S8192x3.Idx → EReal) (ix2 r o)
      = kD4 m c Q ⟨r / 1024, by omega⟩ o ⟨2 * (r / 32 % 32) + 0, by omega⟩ ⟨2 * (r % 32) + 1, by omega⟩ := by
  refine (congrFun ((W28_arr m ρ c 4).trans (exit8_4 (V27 m ρ) c)) _).trans
    (tile8_01 _ _ _ (kD3 m c Q) (k14 m c) (k15 m c) (fun b u v i => ?_) (fun i j a o => ?_) (fun o => ?_) r o)
  · exact pad8 (V := W26 m ρ c) (kD3 m c Q) (w_c6 _) (v90_val ρ hQ) b u v i
  · exact (congrFun (laid27 m ρ c main_v17 (by decide)) _).trans (w_v17 _ _ _ _ _)
  · exact (congrFun (laid27 m ρ c main_v19 (by decide)) _).trans (w_v19 _ _)

/-- The rows of parity 1 and columns of parity 0 of the second transposed convolution. -/
theorem v92_2_val (r : Fin 8192) (o : Fin 3) :
    (W28 m ρ c (Proc.devRef .tc main_v92_2) : S8192x3.Idx → EReal) (ix2 r o)
      = kD4 m c Q ⟨r / 1024, by omega⟩ o ⟨2 * (r / 32 % 32) + 1, by omega⟩ ⟨2 * (r % 32) + 0, by omega⟩ := by
  refine (congrFun ((W28_arr m ρ c 5).trans (exit8_5 (V27 m ρ) c)) _).trans
    (tile8_10 _ _ _ (kD3 m c Q) (k14 m c) (k15 m c) (fun b u v i => ?_) (fun i j a o => ?_) (fun o => ?_) r o)
  · exact pad8 (V := W26 m ρ c) (kD3 m c Q) (w_c6 _) (v90_val ρ hQ) b u v i
  · exact (congrFun (laid27 m ρ c main_v17 (by decide)) _).trans (w_v17 _ _ _ _ _)
  · exact (congrFun (laid27 m ρ c main_v19 (by decide)) _).trans (w_v19 _ _)

/-- The rows of parity 1 and columns of parity 1 of the second transposed convolution. -/
theorem v92_3_val (r : Fin 8192) (o : Fin 3) :
    (W28 m ρ c (Proc.devRef .tc main_v92_3) : S8192x3.Idx → EReal) (ix2 r o)
      = kD4 m c Q ⟨r / 1024, by omega⟩ o ⟨2 * (r / 32 % 32) + 1, by omega⟩ ⟨2 * (r % 32) + 1, by omega⟩ := by
  refine (congrFun ((W28_arr m ρ c 6).trans (exit8_6 (V27 m ρ) c)) _).trans
    (tile8_11 _ _ _ (kD3 m c Q) (k14 m c) (k15 m c) (fun b u v i => ?_) (fun i j a o => ?_) (fun o => ?_) r o)
  · exact pad8 (V := W26 m ρ c) (kD3 m c Q) (w_c6 _) (v90_val ρ hQ) b u v i
  · exact (congrFun (laid27 m ρ c main_v17 (by decide)) _).trans (w_v17 _ _ _ _ _)
  · exact (congrFun (laid27 m ρ c main_v19 (by decide)) _).trans (w_v19 _ _)

/-- The first result of the kernel is the decoded image. -/
theorem v101_val (b : Fin 8) (y x : Fin 64) (o : Fin 3) :
    (W29 m ρ c (Proc.devRef .tc main_v101) : S8x3x64x64.Idx → EReal) (ix4 b o y x) = kD4 m c Q b o y x :=
  weave9 (V := W28 m ρ c) (kD4 m c Q) (v92_0_val ρ hQ) (v92_1_val ρ hQ) (v92_2_val ρ hQ) (v92_3_val ρ hQ) b y x o

omit hQ in
/-- The last result of the kernel is the entry that the quantising call left. -/
theorem v102_val (i : S_.Idx) : (W29 m ρ c (Proc.devRef .tc main_v102) : S_.Idx → EReal) i
    = (W16 m ρ c (Proc.devRef .tc main_v73_1) : S1x1.Idx → EReal) (ix2 0 0) := by
  refine (w_v102 (W28 m ρ c) i).trans (congrFun ?_ _)
  exact (W28_of m ρ c main_v73_1 (by decide +kernel)).trans <| (W27_of m ρ c main_v73_1 (by decide +kernel)).trans <| (W26_of m ρ c main_v73_1 (by decide +kernel)).trans <| (W25_of m ρ c main_v73_1 (by decide +kernel)).trans <| (W24_of m ρ c main_v73_1 (by decide +kernel)).trans <| (W23_of m ρ c main_v73_1 (by decide +kernel)).trans <| (W22_of m ρ c main_v73_1 (by decide +kernel)).trans <| (W21_of m ρ c main_v73_1 (by decide +kernel)).trans <| (W20_of m ρ c main_v73_1 (by decide +kernel)).trans <| (W19_of m ρ c main_v73_1 (by decide +kernel)).trans <| (W18_of m ρ c main_v73_1 (by decide +kernel)).trans <| (W17_of m ρ c main_v73_1 (by decide +kernel))

end Cert.KernelProof
-- ==== Proof.KernelVal.lean ====
module

public import proofs.«01_k».proof.Proof.KernelDec

/-! What the kernel computes of finite encoder arguments. -/

@[expose] public section

set_option maxRecDepth 16384

noncomputable section

namespace Cert.KernelProof

open Idealize.ShloMosaic Idealize.ShloMosaic.TcCoe Idealize.ShloMosaic.StableHlo Cert.KernelIdeal Cert.KernelIdeal.Gen
open Cert.Spec Cert.Split

variable (m : (ℓ : Loc nD τ sig) → Buf (Elt Ideal) ℓ) (ρ : Dev nD → PrngReg) (c : Dev nD)

/-- The encoder of the kernel's arguments, and the decoder of an image by them. -/
def kEnc : Img 64 16 := encoder (k0 m c) (k2 m c) (k3 m c) (k4 m c) (k5 m c) (k6 m c) (k7 m c)
def kDec (Q : Img 64 16) : Img 3 64 :=
  decoder Q (k8 m c) (k9 m c) (k10 m c) (k11 m c) (k12 m c) (k13 m c) (k14 m c) (k15 m c)

theorem kE4_eq : kE4 m c = kEnc m c := rfl
theorem kD4_eq (Q : Img 64 16) : kD4 m c Q = kDec m c Q := rfl

variable {m c}

/-- The kernel's first result is the decoder of the quantised image, and its last the loss. -/
theorem kernel_val (hf : Finite m c) : ∃ Q : Img 64 16, IsQuant (kEnc m c) (k1 m c) Q ∧
    at4 (W29 m ρ c (Proc.devRef .tc main_v101) : S8x3x64x64.Idx → EReal) = kDec m c Q ∧
    ∀ i, (W29 m ρ c (Proc.devRef .tc main_v102) : S_.Idx → EReal) i = loss (kEnc m c) Q := by
  obtain ⟨Q, hq, hr, hl⟩ := v73_val ρ hf
  refine ⟨Q, hq, ?_, fun i => (v102_val ρ i).trans hl⟩
  rw [← kD4_eq]
  funext b o y x
  exact v101_val ρ hr b y x o

end Cert.KernelProof
-- ==== Proof.KernelFin.lean ====
module

public import proofs.«01_k».proof.Defs
public import proofs.«01_k».proof.Proof.KernelEnc

/-! The precondition: its shape facts, and the finiteness it states of the encoder's arguments. -/

@[expose] public section

set_option maxRecDepth 16384

noncomputable section

namespace Cert.KernelProof

open Idealize.ShloMosaic Idealize.ShloMosaic.TcCoe Idealize.ShloMosaic.StableHlo Cert.KernelIdeal Cert.KernelIdeal.Gen
open Cert.Spec Cert.Split

/-- The shapes to which the precondition spreads its bound. -/
instance preFacts : Cert.Pre_encoder_finite.Facts where
  bcast_S_S8x3x64x64 := by decide
  bcast_S_S512x64 := by decide
  bcast_S_S64x3x4x4 := by decide
  bcast_S_S64x64x4x4 := by decide
  bcast_S_S64x64x3x3 := by decide
  bcast_S_S64x64x1x1 := by decide

/-- An entry whose absolute value is below the infinite bound is finite. -/
theorem fin1_of_lt {S : Shape} {d : Fin 0 → Fin S.rank} (hb : S_.BroadcastsInDim S d) (A : FVec Ideal S .f32)
    (h : cmpf .olt (Host.absf A) (broadcastInDim S d hb (constant S_ .f32 0x7F800000#32)) = fun _ => 1#1) (i : S.Idx) :
    fin1 (A i) := by
  have hi := congrFun h i
  pointwise at hi
  have hT : Ideal.ofBits FTy.f32 0x7F800000#32 = ⊤ := by simp [Ideal.ofBits, Ideal.ieee]
  rw [hT] at hi
  have hm : max (A i) (-(A i)) < ⊤ := by
    by_contra hn
    have hn' : ¬ FloatOps.absf (F := Ideal) (φ := .f32) (A i) < (⊤ : EReal) := hn
    rw [decide_eq_false hn'] at hi
    exact absurd hi (by decide)
  rw [max_lt_iff] at hm
  exact ⟨hm.1.ne, fun hb => hm.2.ne (by rw [hb]; rfl)⟩

/-- The precondition says that the encoder's arguments hold finite numbers. -/
theorem finite_of_pre (m : (ℓ : Loc nD τ sig) → Buf (Elt Ideal) ℓ) (h : Cert.Pre_KernelIdeal_encoder_finite m) (c : Dev nD) :
    Finite m c := by
  obtain ⟨h0, h1, h2, h3, h4, h5, h6, h7⟩ := h c
  exact
    { h0 := fun p q r s => fin1_of_lt preFacts.bcast_S_S8x3x64x64 _ h0 _
      h1 := fun k o => fin1_of_lt preFacts.bcast_S_S512x64 _ h1 _
      h2 := fun p q r s => fin1_of_lt preFacts.bcast_S_S64x3x4x4 _ h2 _
      h3 := fun p q r s => fin1_of_lt preFacts.bcast_S_S64x64x4x4 _ h3 _
      h4 := fun p q r s => fin1_of_lt preFacts.bcast_S_S64x64x3x3 _ h4 _
      h5 := fun p q r s => fin1_of_lt preFacts.bcast_S_S64x64x1x1 _ h5 _
      h6 := fun p q r s => fin1_of_lt preFacts.bcast_S_S64x64x3x3 _ h6 _
      h7 := fun p q r s => fin1_of_lt preFacts.bcast_S_S64x64x1x1 _ h7 _ }

end Cert.KernelProof
-- ==== Proof.KernelRun.lean ====
module

public import proofs.«01_k».proof.Proof.Gen.KernelIdeal.Frame

/-! Every execution of the kernel ends with each array at what the last segment leaves. The launch's set-up is the one of the frame. -/

@[expose] public section

set_option maxRecDepth 16384

noncomputable section

namespace Cert.KernelProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each array that lives outside the calls at its contents after the last segment. -/
theorem run : θ_run defs (onTc (τ := τ) (main (F := F))) ⟨m, fun _ => 0, ρ⟩ (fun r =>
      ∀ c : Dev nD, ∀ b ∈ Pipeline.ucRefs τ sig, r.2.mem ((c : Thread nD τ).1, b) = W29 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h hz => h)

/-- No argument lives inside a call. -/
theorem args_uc : ∀ a ∈ argRefs, ¬ (Proc.devRef .tc a : DevRef τ sig).isScoped :=
  ListAll.forall_mem_of_all_decide (by decide)

/-- Every execution ends with both result arrays after the last segment, and each argument as it was. -/
theorem run_results : θ_run defs (onTc (τ := τ) (main (F := F))) ⟨m, fun _ => 0, ρ⟩ (fun r => ∀ c : Dev nD,
      r.2.mem ((c.tc : Thread nD τ).loc main_v101) = W29 m ρ c (Proc.devRef .tc main_v101)
      ∧ r.2.mem ((c.tc : Thread nD τ).loc main_v102) = W29 m ρ c (Proc.devRef .tc main_v102)
      ∧ ∀ a ∈ argRefs, r.2.mem ((c.tc : Thread nD τ).loc a) = m ((c.tc : Thread nD τ).loc a)) :=
  (θ_run defs _ _).mono (fun _ h c => ⟨h c _ (mem_uc main_v101 (by decide)), h c _ (mem_uc main_v102 (by decide)),
    fun a ha => (h c _ (mem_uc a (args_uc a ha))).trans (W29_args m ρ c a ha)⟩) (run m ρ)

end Cert.KernelProof
-- ==== Proof.RefTaps.lean ====
/- The reference's tap tables: a table holds 1 where the input row meets the tap of the output row and 0 elsewhere, so
   a contraction with it reads the padded line. -/
module

public import proofs.«01_k».proof.Proof.Spec
public import Idealize.ShloMosaic.Lib.Pointwise

@[expose] public section

noncomputable section

namespace Cert.RefProof

open Idealize.ShloMosaic Cert.Spec

/-- A table entry: 1 where `h + 1 = s y + i`. -/
theorem tap (s h y i : ℕ) (hs : s ≤ 2) (hh : h < 100) (hy : y < 100) (hi : i < 100) :
    FloatOps.uitofp (F := Ideal) .f32 (IntOp.cmpi .eq (BitVec.ofNat 32 h)
      (IntOp.subi (IntOp.addi (IntOp.muli (BitVec.ofNat 32 s) (BitVec.ofNat 32 y)) (BitVec.ofNat 32 i)) 1#32))
      = if h + 1 = s * y + i then (1 : EReal) else 0 := by
  have e : (BitVec.ofNat 32 h = BitVec.ofNat 32 s * BitVec.ofNat 32 y + BitVec.ofNat 32 i - 1#32) ↔ h + 1 = s * y + i := by
    have hm : s * y < 200 := by nlinarith
    rw [← BitVec.ofNat_mul, ← BitVec.ofNat_add, eq_comm, BitVec.sub_eq_iff_eq_add, ← BitVec.ofNat_add,
      ← BitVec.toNat_inj, BitVec.toNat_ofNat, BitVec.toNat_ofNat]
    omega
  show (((BitVec.ofBool (BitVec.ofNat 32 h == BitVec.ofNat 32 s * BitVec.ofNat 32 y + BitVec.ofNat 32 i - 1#32)).toNat : ℝ) : EReal) = _
  by_cases h' : h + 1 = s * y + i
  · rw [if_pos h', beq_iff_eq.mpr (e.mpr h')]; simp
  · rw [if_neg h', beq_eq_false_iff_ne.mpr (fun q => h' (e.mp q))]; simp

section Three

variable {sl sr so : Shape} (d : DotDims sl sr so) {α β γ : Fin sl.rank} (hc : d.lhsContracting = [α, β, γ]) {a b c : ℕ}
  (ha : sl.size α = a) (hb : sl.size β = b) (hg : sl.size γ = c)

include hc ha hb hg in
theorem size_three (p : Fin d.contr.rank) :
    (if p.val = 0 then a else if p.val = 1 then b else c) = d.contr.size p := by
  subst ha hb hg
  have : ∀ (l : List (Fin sl.rank)) (_ : l = [α, β, γ]) (p : Fin (l.map sl.size).length),
      (if p.val = 0 then sl.size α else if p.val = 1 then sl.size β else sl.size γ) = (l.map sl.size)[p] := by
    rintro _ rfl ⟨p, hp⟩
    have : p = 0 ∨ p = 1 ∨ p = 2 := by simp at hp; omega
    rcases this with rfl | rfl | rfl <;> rfl
  exact this _ hc p

/-- The index of a contraction of three axes, from its coordinates. -/
def contr3 (x : Fin a) (y : Fin b) (z : Fin c) : d.contr.Idx := fun p =>
  if h : p.val = 0 then x.cast (by rw [← size_three d hc ha hb hg p, if_pos h])
  else if h' : p.val = 1 then y.cast (by rw [← size_three d hc ha hb hg p, if_neg h, if_pos h'])
  else z.cast (by rw [← size_three d hc ha hb hg p, if_neg h, if_neg h'])

include hc in
theorem rank_three : d.contr.rank = 3 := by rw [d.rank_contr, hc]; rfl

/-- A sum over a contraction of three axes as three sums. -/
theorem sum_three (F : d.contr.Idx → EReal) :
    ∑ k : d.contr.Idx, F k = ∑ x : Fin a, ∑ y : Fin b, ∑ z : Fin c, F (contr3 d hc ha hb hg x y z) := by
  have hr := rank_three d hc
  rw [← Fintype.sum_equiv (⟨fun k : Fin a × Fin b × Fin c => contr3 d hc ha hb hg k.1 k.2.1 k.2.2,
      fun k => ((k ⟨0, by omega⟩).cast (size_three d hc ha hb hg _).symm, (k ⟨1, by omega⟩).cast (size_three d hc ha hb hg _).symm,
        (k ⟨2, by omega⟩).cast (size_three d hc ha hb hg _).symm), fun _ => rfl, fun k => by
        funext p
        have : p = ⟨0, by omega⟩ ∨ p = ⟨1, by omega⟩ ∨ p = ⟨2, by omega⟩ := by
          rcases p with ⟨p, hp⟩; simp only [Fin.mk.injEq]; omega
        rcases this with rfl | rfl | rfl <;> rfl⟩ : Fin a × Fin b × Fin c ≃ d.contr.Idx)
      (fun k => F (contr3 d hc ha hb hg k.1 k.2.1 k.2.2)) F fun _ => rfl]
  simp only [Fintype.sum_prod_type]

/-- A product of two arrays contracting three axes, at an index. -/
theorem dot3 (l : FVec Ideal sl .f32) (r : FVec Ideal sr .f32) (q : so.Idx) :
    Host.dotGeneral d none l r q = ∑ x : Fin a, ∑ y : Fin b, ∑ z : Fin c,
      l (d.lhsIdx q (contr3 d hc ha hb hg x y z)) * r (d.rhsIdx q (contr3 d hc ha hb hg x y z)) :=
  (Ideal.dotGeneral_apply _ none .single l r q).trans (sum_three d hc ha hb hg _)

end Three

/-- Contracting a line with a table row reads the padded line. -/
theorem sum_tap {n : ℕ} (f : Fin n → EReal) (u : ℕ) :
    (∑ h : Fin n, f h * if (h : ℕ) + 1 = u then (1 : EReal) else 0) = rd1 f u := by
  unfold rd1
  split
  · rename_i h
    rw [Finset.sum_eq_single ⟨u - 1, by omega⟩]
    · rw [if_pos (by simp only []; omega), mul_one]
    · intro b _ hb
      rw [if_neg (fun e => hb (Fin.ext (by simp only []; omega))), mul_zero]
    · simp
  · rename_i h
    refine Finset.sum_eq_zero fun b _ => ?_
    rw [if_neg (by omega), mul_zero]

/-- A line read at the row of the transposed convolution that tap `i` of output row `y` meets, if there is one. -/
def rdt {n : ℕ} (f : Fin n → EReal) (y i : ℕ) : EReal :=
  if h : i ≤ y + 1 ∧ (y + 1 - i) % 2 = 0 ∧ (y + 1 - i) / 2 < n then f ⟨(y + 1 - i) / 2, h.2.2⟩ else 0

/-- Contracting a line with a column of the table reads the row the tap meets. -/
theorem sum_tapT {n : ℕ} (f : Fin n → EReal) (y i : ℕ) :
    (∑ h : Fin n, f h * if y + 1 = 2 * (h : ℕ) + i then (1 : EReal) else 0) = rdt f y i := by
  unfold rdt
  split
  · rename_i h
    rw [Finset.sum_eq_single ⟨(y + 1 - i) / 2, h.2.2⟩]
    · rw [if_pos (by simp only []; omega), mul_one]
    · intro b _ hb
      rw [if_neg (fun e => hb (Fin.ext (by simp only []; omega))), mul_zero]
    · simp
  · rename_i h
    refine Finset.sum_eq_zero fun b _ => ?_
    rw [if_neg (by have := b.isLt; omega), mul_zero]

/-- A tap that meets a row reads the padded line there. -/
theorem rdt_meets {n : ℕ} (f : Fin n → EReal) (y p : ℕ) (hp : p < 2) :
    rdt f y (3 - y % 2 - 2 * p) = rd1 f (y / 2 + y % 2 + p) := by
  unfold rdt rd1
  by_cases h : 1 ≤ y / 2 + y % 2 + p ∧ y / 2 + y % 2 + p ≤ n
  · rw [dif_pos h, dif_pos (by omega)]
    congr 2; omega
  · rw [dif_neg h, dif_neg (by omega)]

/-- A tap of the other parity meets none. -/
theorem rdt_misses {n : ℕ} (f : Fin n → EReal) (y p : ℕ) : rdt f y (y % 2 + 2 * p) = 0 := by
  unfold rdt
  rw [dif_neg (by omega)]

/-- The sum over the four taps of a row is the sum over the two that meet a row. -/
theorem sum_taps {n : ℕ} (y : ℕ) (f : Fin n → EReal) (g : Fin 4 → EReal → EReal) (hg : ∀ i, g i 0 = 0) :
    ∑ i : Fin 4, g i (rdt f y i) = ∑ p : Fin 2, g ⟨3 - y % 2 - 2 * p, by omega⟩ (rd1 f (y / 2 + y % 2 + p)) := by
  have h0 := rdt_meets f y 0 (by omega)
  have h1 := rdt_meets f y 1 (by omega)
  have m0 := rdt_misses f y 0
  have m1 := rdt_misses f y 1
  rw [Fin.sum_univ_four, Fin.sum_univ_two]
  rcases Nat.mod_two_eq_zero_or_one y with e | e
  · simp only [e] at h0 h1 m0 m1 ⊢
    simp only [Fin.val_zero, Fin.val_one, Fin.val_two, show ((3 : Fin 4) : ℕ) = 3 from rfl] at *
    norm_num at h0 h1 m0 m1 ⊢
    rw [h0, h1, m0, m1, hg, hg, zero_add, add_zero, add_comm]
    rfl
  · simp only [e] at h0 h1 m0 m1 ⊢
    simp only [Fin.val_zero, Fin.val_one, Fin.val_two, show ((3 : Fin 4) : ℕ) = 3 from rfl] at *
    norm_num at h0 h1 m0 m1 ⊢
    rw [h0, h1, m0, m1, hg, hg, add_zero, add_zero, add_comm]
    rfl

/-- Reading a plane in its columns by a tap and in its rows by the border, in either order. -/
theorem rd1_rdt {n : ℕ} (f : Fin n → Fin n → EReal) (y i u : ℕ) :
    rd1 (fun w => rdt (fun h => f h w) y i) u = rdt (fun h => rd1 (fun w => f h w) u) y i := by
  unfold rd1 rdt
  split_ifs <;> rfl

/-- Reading a plane with its border, rows or columns first. -/
theorem rd1_rd1 {n : ℕ} (f : Fin n → Fin n → EReal) (u v : ℕ) :
    rd1 (fun h => rd1 (fun w => f h w) v) u = rd2 f u v := by
  unfold rd2 rd1
  split_ifs <;> rfl

/-- The sum over the sixteen taps of a pixel is the sum over the four that meet one. -/
theorem sum_taps2 {n : ℕ} (y x : ℕ) (w : Fin 4 → Fin 4 → EReal) (f : Fin n → Fin n → EReal) :
    (∑ i : Fin 4, ∑ j : Fin 4, w i j * rdt (fun u => rdt (fun h => f h u) y i) x j) =
      ∑ p : Fin 2, ∑ q : Fin 2, w ⟨3 - y % 2 - 2 * p, by omega⟩ ⟨3 - x % 2 - 2 * q, by omega⟩ *
        rd2 f (y / 2 + y % 2 + p) (x / 2 + x % 2 + q) := by
  have h1 : ∀ i : Fin 4, (∑ j : Fin 4, w i j * rdt (fun u => rdt (fun h => f h u) y i) x j) =
      ∑ q : Fin 2, w i ⟨3 - x % 2 - 2 * q, by omega⟩ *
        rdt (fun h => rd1 (fun u => f h u) (x / 2 + x % 2 + q)) y i := fun i => by
    rw [sum_taps x _ (fun j v => w i j * v) fun _ => mul_zero _]
    simp only [rd1_rdt]
  simp only [h1]
  rw [Finset.sum_comm]
  have h2 : ∀ q : Fin 2, (∑ i : Fin 4, w i ⟨3 - x % 2 - 2 * q, by omega⟩ *
      rdt (fun h => rd1 (fun u => f h u) (x / 2 + x % 2 + q)) y i) =
      ∑ p : Fin 2, w ⟨3 - y % 2 - 2 * p, by omega⟩ ⟨3 - x % 2 - 2 * q, by omega⟩ *
        rd2 f (y / 2 + y % 2 + p) (x / 2 + x % 2 + q) := fun q => by
    rw [sum_taps y _ (fun i v => w i ⟨3 - x % 2 - 2 * q, by omega⟩ * v) fun _ => mul_zero _]
    simp only [rd1_rd1]
  simp only [h2]
  exact Finset.sum_comm

end Cert.RefProof

end
-- ==== Proof.RefConv.lean ====
/- What each stage of the reference leaves in its output, as the model's functions of what its inputs hold. -/
module

public import proofs.«01_k».proof.Proof.RefFrame
public import proofs.«01_k».proof.Proof.RefTaps

@[expose] public section

set_option maxRecDepth 16384

noncomputable section

namespace Cert.RefProof

open Idealize.ShloMosaic Idealize.ShloMosaic.StableHlo Cert.ReferenceIdeal Cert.ReferenceIdeal.Gen Idealize.ShloMosaic.TcCoe
open Cert.Spec

/-- The first convolution as a contraction of channel and taps. -/
theorem dot_conv1 (l : FVec Ideal S64x3x4x4 .f32) (r : FVec Ideal S8x3x32x4x32x4 .f32) :
    Host.dotGeneral dot_S64x3x4x4_S8x3x32x4x32x4_S64x8x32x32_123_135_0_024_n_n none l r =
      fun q => ∑ c : Fin 3, ∑ i : Fin 4, ∑ j : Fin 4, l (ix4 (q 0) c i j) * r (ix6 (q 1) c (q 2) i (q 3) j) := by
  funext q
  rw [dot3 _ rfl rfl rfl rfl]
  refine Finset.sum_congr rfl fun c _ => Finset.sum_congr rfl fun i _ => Finset.sum_congr rfl fun j _ => ?_
  congr 2 <;> (funext a; fin_cases a <;> rfl)

/-- The second convolution as a contraction of channel and taps. -/
theorem dot_conv2 (l : FVec Ideal S64x64x4x4 .f32) (r : FVec Ideal S8x64x16x4x16x4 .f32) :
    Host.dotGeneral dot_S64x64x4x4_S8x64x16x4x16x4_S64x8x16x16_123_135_0_024_n_n none l r =
      fun q => ∑ c : Fin 64, ∑ i : Fin 4, ∑ j : Fin 4, l (ix4 (q 0) c i j) * r (ix6 (q 1) c (q 2) i (q 3) j) := by
  funext q
  rw [dot3 _ rfl rfl rfl rfl]
  refine Finset.sum_congr rfl fun c _ => Finset.sum_congr rfl fun i _ => Finset.sum_congr rfl fun j _ => ?_
  congr 2 <;> (funext a; fin_cases a <;> rfl)

/-- A residual block's 3x3 convolution as a contraction of channel and taps. -/
theorem dot_res (l : FVec Ideal S64x64x3x3 .f32) (r : FVec Ideal S8x64x16x3x16x3 .f32) :
    Host.dotGeneral dot_S64x64x3x3_S8x64x16x3x16x3_S64x8x16x16_123_135_0_024_n_n none l r =
      fun q => ∑ c : Fin 64, ∑ i : Fin 3, ∑ j : Fin 3, l (ix4 (q 0) c i j) * r (ix6 (q 1) c (q 2) i (q 3) j) := by
  funext q
  rw [dot3 _ rfl rfl rfl rfl]
  refine Finset.sum_congr rfl fun c _ => Finset.sum_congr rfl fun i _ => Finset.sum_congr rfl fun j _ => ?_
  congr 2 <;> (funext a; fin_cases a <;> rfl)

/-- The first transposed convolution as a contraction of channel and taps. -/
theorem dot_dec1 (l : FVec Ideal S64x64x4x4 .f32) (r : FVec Ideal S8x64x32x4x32x4 .f32) :
    Host.dotGeneral dot_S64x64x4x4_S8x64x32x4x32x4_S64x8x32x32_023_135_1_024_n_n none l r =
      fun q => ∑ c : Fin 64, ∑ i : Fin 4, ∑ j : Fin 4, l (ix4 c (q 0) i j) * r (ix6 (q 1) c (q 2) i (q 3) j) := by
  funext q
  rw [dot3 _ rfl rfl rfl rfl]
  refine Finset.sum_congr rfl fun c _ => Finset.sum_congr rfl fun i _ => Finset.sum_congr rfl fun j _ => ?_
  congr 2 <;> (funext a; fin_cases a <;> rfl)

/-- The second transposed convolution as a contraction of channel and taps. -/
theorem dot_dec2 (l : FVec Ideal S64x3x4x4 .f32) (r : FVec Ideal S8x64x64x4x64x4 .f32) :
    Host.dotGeneral dot_S64x3x4x4_S8x64x64x4x64x4_S3x8x64x64_023_135_1_024_n_n none l r =
      fun q => ∑ c : Fin 64, ∑ i : Fin 4, ∑ j : Fin 4, l (ix4 c (q 0) i j) * r (ix6 (q 1) c (q 2) i (q 3) j) := by
  funext q
  rw [dot3 _ rfl rfl rfl rfl]
  refine Finset.sum_congr rfl fun c _ => Finset.sum_congr rfl fun i _ => Finset.sum_congr rfl fun j _ => ?_
  congr 2 <;> (funext a; fin_cases a <;> rfl)

/-- The first convolution. -/
theorem conv1_val (V : Valuation τ sig (Elt Ideal)) (b : Fin 8) (o : Fin 64) (y x : Fin 32) :
    (after sConv1 V (Proc.devRef .tc main_v21) : S8x64x32x32.Idx → EReal) (ix4 b o y x) =
      relu (conv 64 32 2 (at4 (V (Proc.devRef .tc main_arg0) : S8x3x64x64.Idx → EReal))
        (at4 (V (Proc.devRef .tc main_arg2) : S64x3x4x4.Idx → EReal))) b o y x := by
  unfold sConv1 part0
  simp only
  after_reads_simp
  simp only [dot_conv1, TRef.ofBuf, TRef.toBuf, cast_eq]
  pointwise
  simp (disch := omega) only [tap, sum_tap]
  rfl

/-- The second convolution. -/
theorem conv2_val (V : Valuation τ sig (Elt Ideal)) (b : Fin 8) (o : Fin 64) (y x : Fin 16) :
    (after sConv2 V (Proc.devRef .tc main_v43) : S8x64x16x16.Idx → EReal) (ix4 b o y x) =
      relu (conv 64 16 2 (at4 (V (Proc.devRef .tc main_v21) : S8x64x32x32.Idx → EReal))
        (at4 (V (Proc.devRef .tc main_arg3) : S64x64x4x4.Idx → EReal))) b o y x := by
  unfold sConv2 part0
  simp only
  after_reads_simp
  simp only [dot_conv2, TRef.ofBuf, TRef.toBuf, cast_eq]
  pointwise
  simp (disch := omega) only [tap, sum_tap]
  rfl

/-- The first residual block. -/
theorem rb1_val (V : Valuation τ sig (Elt Ideal)) (b : Fin 8) (o : Fin 64) (y x : Fin 16) :
    (after sRb1 V (Proc.devRef .tc main_v69) : S8x64x16x16.Idx → EReal) (ix4 b o y x) =
      resBlock (at4 (V (Proc.devRef .tc main_v43) : S8x64x16x16.Idx → EReal))
        (at4 (V (Proc.devRef .tc main_arg4) : S64x64x3x3.Idx → EReal))
        (at4 (V (Proc.devRef .tc main_arg5) : S64x64x1x1.Idx → EReal)) b o y x := by
  unfold sRb1 part0 part1
  simp only [List.cons_append, List.nil_append]
  after_reads_simp
  simp only [dot_res, TRef.ofBuf, TRef.toBuf, cast_eq]
  pointwise
  simp (disch := omega) only [tap, sum_tap]
  rfl

/-- The second residual block. -/
theorem rb2_val (V : Valuation τ sig (Elt Ideal)) (b : Fin 8) (o : Fin 64) (y x : Fin 16) :
    (after sRb2 V (Proc.devRef .tc main_v95) : S8x64x16x16.Idx → EReal) (ix4 b o y x) =
      resBlock (at4 (V (Proc.devRef .tc main_v69) : S8x64x16x16.Idx → EReal))
        (at4 (V (Proc.devRef .tc main_arg6) : S64x64x3x3.Idx → EReal))
        (at4 (V (Proc.devRef .tc main_arg7) : S64x64x1x1.Idx → EReal)) b o y x := by
  unfold sRb2 part1
  simp only [List.cons_append, List.nil_append]
  after_reads_simp
  simp only [dot_res, TRef.ofBuf, TRef.toBuf, cast_eq]
  pointwise
  simp (disch := omega) only [tap, sum_tap]
  rfl

/-- The third residual block. -/
theorem rb3_val (V : Valuation τ sig (Elt Ideal)) (b : Fin 8) (o : Fin 64) (y x : Fin 16) :
    (after sRb3 V (Proc.devRef .tc main_v135) : S8x64x16x16.Idx → EReal) (ix4 b o y x) =
      resBlock (at4 (V (Proc.devRef .tc main_v109) : S8x64x16x16.Idx → EReal))
        (at4 (V (Proc.devRef .tc main_arg8) : S64x64x3x3.Idx → EReal))
        (at4 (V (Proc.devRef .tc main_arg9) : S64x64x1x1.Idx → EReal)) b o y x := by
  unfold sRb3 part1 part2
  simp only [List.cons_append, List.nil_append]
  after_reads_simp
  simp only [dot_res, TRef.ofBuf, TRef.toBuf, cast_eq]
  pointwise
  simp (disch := omega) only [tap, sum_tap]
  rfl

/-- The fourth residual block. -/
theorem rb4_val (V : Valuation τ sig (Elt Ideal)) (b : Fin 8) (o : Fin 64) (y x : Fin 16) :
    (after sRb4 V (Proc.devRef .tc main_v161) : S8x64x16x16.Idx → EReal) (ix4 b o y x) =
      resBlock (at4 (V (Proc.devRef .tc main_v135) : S8x64x16x16.Idx → EReal))
        (at4 (V (Proc.devRef .tc main_arg10) : S64x64x3x3.Idx → EReal))
        (at4 (V (Proc.devRef .tc main_arg11) : S64x64x1x1.Idx → EReal)) b o y x := by
  unfold sRb4 part2
  simp only [List.cons_append, List.nil_append]
  after_reads_simp
  simp only [dot_res, TRef.ofBuf, TRef.toBuf, cast_eq]
  pointwise
  simp (disch := omega) only [tap, sum_tap]
  rfl

/-- The first transposed convolution. -/
theorem dec1_val (V : Valuation τ sig (Elt Ideal)) (b : Fin 8) (o : Fin 64) (y x : Fin 32) :
    (after sDec1 V (Proc.devRef .tc main_v186) : S8x64x32x32.Idx → EReal) (ix4 b o y x) =
      relu (deconv 64 32 (at4 (V (Proc.devRef .tc main_v161) : S8x64x16x16.Idx → EReal))
        (at4 (V (Proc.devRef .tc main_arg12) : S64x64x4x4.Idx → EReal))
        (fun o => (V (Proc.devRef .tc main_arg13) : S64.Idx → EReal) (ix1 o))) b o y x := by
  unfold sDec1 part2 part3
  simp only [List.cons_append, List.nil_append]
  after_reads_simp
  simp only [dot_dec1, TRef.ofBuf, TRef.toBuf, cast_eq]
  pointwise
  simp (disch := omega) only [tap, sum_tapT, sum_taps2]
  rfl

/-- The second transposed convolution and the logistic function. -/
theorem dec2_val (V : Valuation τ sig (Elt Ideal)) (b : Fin 8) (o : Fin 3) (y x : Fin 64) :
    (after sDec2 V (Proc.devRef .tc main_v216) : S8x3x64x64.Idx → EReal) (ix4 b o y x) =
      sigm (deconv 3 64 (at4 (V (Proc.devRef .tc main_v186) : S8x64x32x32.Idx → EReal))
        (at4 (V (Proc.devRef .tc main_arg14) : S64x3x4x4.Idx → EReal))
        (fun o => (V (Proc.devRef .tc main_arg15) : S3.Idx → EReal) (ix1 o))) b o y x := by
  unfold sDec2 part3
  simp only [List.cons_append, List.nil_append]
  after_reads_simp
  simp only [dot_dec2, TRef.ofBuf, TRef.toBuf, cast_eq]
  pointwise
  simp (disch := omega) only [tap, sum_tapT, sum_taps2]
  rfl

end Cert.RefProof
-- ==== Proof.RefVq.lean ====
/- The quantisation in the reference: the index of the nearest row of the codebook, and that row taken. -/
module

public import proofs.«01_k».proof.Proof.RefConv

@[expose] public section

set_option maxRecDepth 16384

noncomputable section

namespace Cert.RefProof

open Idealize.ShloMosaic Idealize.ShloMosaic.StableHlo Cert.ReferenceIdeal Cert.ReferenceIdeal.Gen Idealize.ShloMosaic.TcCoe
open Cert.Spec

/-- The order of (value, index) pairs: by value, then by index. -/
def lexLe (a b : EReal × BitVec 32) : Prop := a.1 < b.1 ∨ a.1 = b.1 ∧ a.2.toInt ≤ b.2.toInt

theorem lexLe_refl (a : EReal × BitVec 32) : lexLe a a := Or.inr ⟨rfl, le_rfl⟩

theorem lexLe_trans {a b c : EReal × BitVec 32} (h : lexLe a b) (h' : lexLe b c) : lexLe a c := by
  unfold lexLe at *
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- The reduction's body keeps the lesser of two pairs. -/
theorem reducer_le (a b : EReal × BitVec 32) :
    (reducer_argmin_f32_i32 (F := Ideal) a b = a ∧ lexLe a b) ∨ (reducer_argmin_f32_i32 (F := Ideal) a b = b ∧ lexLe b a) := by
  obtain ⟨a1, a2⟩ := a
  obtain ⟨b1, b2⟩ := b
  unfold reducer_argmin_f32_i32 lexLe
  simp only [Ideal.cmpf_def, Ideal.cmp, IntOp.cmpi, IntOp.ori, IntOp.andi, Scalar.select, ne_eq, not_true_eq_false, decide_false]
  rcases lt_trichotomy a1 b1 with h | h | h
  · left; simp [h, h.ne]
  · subst h
    by_cases k : a2.slt b2
    · left
      have := BitVec.slt_iff_toInt_lt.mp k
      simp [k, this.le]
    · right
      have := fun q => k (BitVec.slt_iff_toInt_lt.mpr q)
      simp [k, not_lt.mp this]
  · right; simp [h, h.ne', h.not_gt]

/-- A fold of the body over a list leaves one of its pairs or the first, least of them all. -/
theorem foldl_reducer (l : List (EReal × BitVec 32)) (z : EReal × BitVec 32) :
    (l.foldl (reducer_argmin_f32_i32 (F := Ideal)) z = z ∨ l.foldl (reducer_argmin_f32_i32 (F := Ideal)) z ∈ l) ∧
      lexLe (l.foldl (reducer_argmin_f32_i32 (F := Ideal)) z) z ∧
      ∀ p ∈ l, lexLe (l.foldl (reducer_argmin_f32_i32 (F := Ideal)) z) p := by
  induction l generalizing z with
  | nil => exact ⟨Or.inl rfl, lexLe_refl _, by simp⟩
  | cons a l ih =>
    rw [List.foldl_cons]
    obtain ⟨h1, h2, h3⟩ := ih (reducer_argmin_f32_i32 (F := Ideal) z a)
    rcases reducer_le z a with ⟨e, h⟩ | ⟨e, h⟩ <;> rw [e] at h1 h2 h3 ⊢
    · exact ⟨h1.imp id (List.mem_cons_of_mem _), h2, by
        intro p hp; rcases List.mem_cons.mp hp with rfl | hp
        · exact lexLe_trans h2 h
        · exact h3 p hp⟩
    · exact ⟨Or.inr (h1.elim (fun q => by rw [q]; exact List.mem_cons_self) (List.mem_cons_of_mem _)), lexLe_trans h2 h, by
        intro p hp; rcases List.mem_cons.mp hp with rfl | hp
        · exact h2
        · exact h3 p hp⟩

theorem ofBits_inf : Ideal.ofBits .f32 0x7F800000#32 = ⊤ := by
  simp [Ideal.ofBits, Ideal.ieee]

theorem drop_ix4 (b : Fin 8) (y x : Fin 16) (k : Fin 512) :
    reducesTo_S8x16x16x512_S8x16x16_d3.drop (ix4 b y x k) = ix3 b y x := by
  funext a; fin_cases a <;> rfl

/-- The reference's argmin is the first index of a least value, where the values are below infinity. -/
theorem argmin_first (d : FVec Ideal S8x16x16x512 .f32) (b : Fin 8) (y x : Fin 16) (hd : ∀ k, d (ix4 b y x k) ≠ ⊤) :
    ∃ k : Fin 512, FirstMin (fun k => d (ix4 b y x k)) k ∧
      (Host.argReduce (reducer_argmin_f32_i32 (F := Ideal)) d (iotaInDim S8x16x16x512 32 3) (constant S_ .f32 0x7F800000#32)
        (constantI S_ 32 0#32) reducesTo_S8x16x16x512_S8x16x16_d3 h_S_ (ix3 b y x)).2 = BitVec.ofNat 32 k := by
  rw [Ideal.argReduce_eq_reduce2, Host.reduce2_eq_foldl_fiber]
  have hmem : ∀ p, p ∈ Host.argReduceFiber d (iotaInDim S8x16x16x512 32 3) reducesTo_S8x16x16x512_S8x16x16_d3 (ix3 b y x) ↔
      ∃ k : Fin 512, p = (d (ix4 b y x k), BitVec.ofNat 32 k) := by
    intro p
    unfold Host.argReduceFiber
    simp only [List.mem_map, List.mem_filter, List.mem_finRange, true_and, decide_eq_true_eq]
    constructor
    · rintro ⟨n, hn, rfl⟩
      generalize S8x16x16x512.rowMajor.symm n = i at hn
      obtain ⟨a0, a1, a2, a3, rfl⟩ : ∃ (a0 : Fin 8) (a1 a2 : Fin 16) (a3 : Fin 512), i = ix4 a0 a1 a2 a3 :=
        ⟨i 0, i 1, i 2, i 3, by funext a; fin_cases a <;> rfl⟩
      rw [drop_ix4] at hn
      have h0 : a0 = b := congrFun hn 0
      have h1 : a1 = y := congrFun hn 1
      have h2 : a2 = x := congrFun hn 2
      subst h0 h1 h2
      exact ⟨a3, rfl⟩
    · rintro ⟨k, rfl⟩
      refine ⟨S8x16x16x512.rowMajor (ix4 b y x k), ?_, ?_⟩
      · rw [Equiv.symm_apply_apply]; exact drop_ix4 _ _ _ _
      · rw [Equiv.symm_apply_apply]; rfl
  obtain ⟨h1, h2, h3⟩ := foldl_reducer
    (Host.argReduceFiber d (iotaInDim S8x16x16x512 32 3) reducesTo_S8x16x16x512_S8x16x16_d3 (ix3 b y x))
    ((constant (F := Ideal) S_ .f32 0x7F800000#32) (Shape.Idx.first h_S_), (constantI S_ 32 0#32) (Shape.Idx.first h_S_))
  generalize List.foldl _ _ _ = r at h1 h2 h3 ⊢
  have hr : ∃ k : Fin 512, r = (d (ix4 b y x k), BitVec.ofNat 32 k) := by
    rcases h1 with h1 | h1
    · exfalso
      have h0 := h3 _ ((hmem _).mpr ⟨0, rfl⟩)
      rw [h1] at h0
      have hT : (constant (F := Ideal) S_ .f32 0x7F800000#32) (Shape.Idx.first h_S_) = ⊤ :=
        ofBits_inf
      rcases h0 with h0 | ⟨h0, _⟩
      · simp only [hT] at h0; exact not_top_lt h0
      · simp only [hT] at h0; exact hd 0 h0.symm
    · exact (hmem _).mp h1
  obtain ⟨k, rfl⟩ := hr
  refine ⟨k, ⟨fun j => ?_, fun j hj => ?_⟩, rfl⟩
  · rcases h3 _ ((hmem _).mpr ⟨j, rfl⟩) with h | ⟨h, _⟩
    · exact h.le
    · exact h.le
  · rcases h3 _ ((hmem _).mpr ⟨j, rfl⟩) with h | ⟨h, h'⟩
    · exact h
    · exfalso
      simp only [BitVec.toInt_ofNat'] at h'
      have := j.isLt; have := k.isLt
      rw [Fin.lt_def] at hj
      simp only [Int.bmod_def] at h'
      omega

/-- A row taken of the codebook: the start is read signed and clamped to the rows. -/
theorem gather_row (A : FVec Ideal S512x64 .f32) (I : IVec S2048x1 32) (r : Fin 2048) (o : Fin 64) :
    Host.gather gather_S512x64_S2048x1_S2048x64_1_0_n_n_0_1_164 A I (ix2 r o) =
      A (ix2 ⟨min (I (ix2 r 0)).toInt.toNat 511, by omega⟩ o) := by
  unfold Host.gather
  congr 1
  funext a
  refine Fin.ext ?_
  show gather_S512x64_S2048x1_S2048x64_1_0_n_n_0_1_164.start (ix2 r o) I a +
    gather_S512x64_S2048x1_S2048x64_1_0_n_n_0_1_164.batchCoord (ix2 r o) a +
    gather_S512x64_S2048x1_S2048x64_1_0_n_n_0_1_164.offCoord (ix2 r o) a = _
  rw [GatherDims.batchCoord_eq_zero _ _ _ (by simp [gather_S512x64_S2048x1_S2048x64_1_0_n_n_0_1_164])]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x64_S2048x1_S2048x64_1_0_n_n_0_1_164.startIndexMap from List.mem_singleton.mpr rfl)]
    refine congrArg (fun i => min (I i).toInt.toNat 511) ?_
    funext b; refine Fin.ext ?_
    match b with
    | ⟨0, _⟩ => rfl
    | ⟨1, _⟩ => rfl
  · unfold GatherDims.start
    rw [dif_neg (show ¬ (1 : Fin 2) ∈ gather_S512x64_S2048x1_S2048x64_1_0_n_n_0_1_164.startIndexMap by decide)]
    simp only [Nat.zero_add, Nat.add_zero]
    unfold GatherDims.offCoord
    rfl

/-- The row whose index the argmin gave, at a pixel. -/
theorem take_val (W : Valuation τ sig (Elt Ideal)) (b : Fin 8) (o : Fin 64) (y x : Fin 16) (k : Fin 512)
    (hk : (W (Proc.devRef .tc main_v105) : S8x16x16.Idx → BitVec 32) (ix3 b y x) = BitVec.ofNat 32 k) :
    (after (sVq.drop 15) W (Proc.devRef .tc main_v108) : S8x16x16x64.Idx → EReal) (ix4 b y x o) =
        (W (Proc.devRef .tc main_arg1) : S512x64.Idx → EReal) (ix2 k o) ∧
      (after (sVq.drop 15) W (Proc.devRef .tc main_v109) : S8x64x16x16.Idx → EReal) (ix4 b o y x) =
        (W (Proc.devRef .tc main_arg1) : S512x64.Idx → EReal) (ix2 k o) := by
  have e0 : (⟨(b * 256 + y * 16 + x : ℕ) / 256, by omega⟩ : Fin 8) = b := Fin.ext (by simp only []; omega)
  have e1 : (⟨(b * 256 + y * 16 + x : ℕ) / 16 % 16, by omega⟩ : Fin 16) = y := Fin.ext (by simp only []; omega)
  have e2 : (⟨(b * 256 + y * 16 + x : ℕ) % 16, by omega⟩ : Fin 16) = x := Fin.ext (by simp only []; omega)
  have hlt := k.isLt
  have hi : (BitVec.ofNat 32 (k : ℕ)).toInt = k := by
    rw [BitVec.toInt_ofNat', Int.bmod_def]; omega
  have c0 : IntOp.cmpi .slt (BitVec.ofNat 32 (k : ℕ)) 0#32 = 0#1 := by
    have : (BitVec.ofNat 32 (k : ℕ)).slt 0#32 = false := by
      rw [Bool.eq_false_iff]; intro h; rw [BitVec.slt_iff_toInt_lt, hi] at h; simp at h; omega
    simp [IntOp.cmpi, this]
  have c1 : IntOp.cmpi .sge (BitVec.ofNat 32 (k : ℕ)) 0#32 = 1#1 := by
    have : (0#32).sle (BitVec.ofNat 32 (k : ℕ)) = true := by rw [BitVec.sle_iff_toInt_le, hi]; simp
    simp [IntOp.cmpi, this]
  have c2 : IntOp.cmpi .sle (BitVec.ofNat 32 (k : ℕ)) 511#32 = 1#1 := by
    have : (BitVec.ofNat 32 (k : ℕ)).sle 511#32 = true := by
      rw [BitVec.sle_iff_toInt_le, hi, show (511#32).toInt = 511 from rfl]; omega
    simp [IntOp.cmpi, this]
  refine ⟨?_, ?_⟩ <;>
  · unfold sVq part1
    simp only [List.drop_succ_cons, List.drop_zero]
    after_reads_simp
    simp only [TRef.ofBuf, TRef.toBuf, cast_eq]
    pointwise [gather_row]
    simp only [e0, e1, e2, hk, c0, c1, c2]
    have f : ∀ v, Scalar.select (0#1) v (BitVec.ofNat 32 (k : ℕ)) = BitVec.ofNat 32 (k : ℕ) := fun v => rfl
    simp only [f, c1, c2, hi, Finset.univ_unique, Finset.fold_singleton]
    refine congrArg (fun r : Fin 512 => (W (Proc.devRef .tc main_arg1) : S512x64.Idx → EReal) (ix2 r o)) (Fin.ext ?_)
    show min ((k : ℕ) : ℤ).toNat 511 = k
    omega

end Cert.RefProof
-- ==== Proof.RefVqVal.lean ====
/- What the quantisation leaves: the nearest row of the codebook at every pixel. -/
module

public import proofs.«01_k».proof.Proof.RefVq

@[expose] public section

set_option maxRecDepth 16384

noncomputable section

namespace Cert.RefProof

open Idealize.ShloMosaic Idealize.ShloMosaic.StableHlo Cert.ReferenceIdeal Cert.ReferenceIdeal.Gen Idealize.ShloMosaic.TcCoe
open Cert.Spec

/-- The index the argmin gives at a pixel, where the distances are below infinity. -/
theorem idx_val (V : Valuation τ sig (Elt Ideal)) (b : Fin 8) (y x : Fin 16)
    (hd : ∀ k, dist (at4 (V (Proc.devRef .tc main_v95) : S8x64x16x16.Idx → EReal))
      (fun k c => (V (Proc.devRef .tc main_arg1) : S512x64.Idx → EReal) (ix2 k c)) b y x k ≠ ⊤) :
    ∃ k : Fin 512, FirstMin (dist (at4 (V (Proc.devRef .tc main_v95) : S8x64x16x16.Idx → EReal))
        (fun k c => (V (Proc.devRef .tc main_arg1) : S512x64.Idx → EReal) (ix2 k c)) b y x) k ∧
      (after (sVq.take 15) V (Proc.devRef .tc main_v105) : S8x16x16.Idx → BitVec 32) (ix3 b y x) = BitVec.ofNat 32 k := by
  unfold sVq part1
  simp only [List.take_succ_cons, List.take_zero]
  after_reads_simp
  simp only [TRef.ofBuf, TRef.toBuf, cast_eq]
  generalize hD : Host.sqrt (F := Ideal) (s := S8x16x16x512) (φ := .f32) _ = D
  have e : (fun k => D (ix4 b y x k)) = dist (at4 (V (Proc.devRef .tc main_v95) : S8x64x16x16.Idx → EReal))
      (fun k c => (V (Proc.devRef .tc main_arg1) : S512x64.Idx → EReal) (ix2 k c)) b y x := by
    funext k
    rw [← hD]
    pointwise
    rfl
  rw [← e] at hd ⊢
  exact argmin_first D b y x hd

/-- The operations up to the argmin keep the codebook. -/
theorem keeps_idx (V : Valuation τ sig (Elt Ideal)) :
    after (sVq.take 15) V (Proc.devRef .tc main_arg1) = V (Proc.devRef .tc main_arg1) := by
  unfold sVq part1
  simp only [List.take_succ_cons, List.take_zero]
  after_reads_simp

/-- The quantised image at a pixel is the nearest row of the codebook, in both layouts. -/
theorem vq_val (V : Valuation τ sig (Elt Ideal)) (b : Fin 8) (y x : Fin 16)
    (hd : ∀ k, dist (at4 (V (Proc.devRef .tc main_v95) : S8x64x16x16.Idx → EReal))
      (fun k c => (V (Proc.devRef .tc main_arg1) : S512x64.Idx → EReal) (ix2 k c)) b y x k ≠ ⊤) :
    ∃ k : Fin 512, FirstMin (dist (at4 (V (Proc.devRef .tc main_v95) : S8x64x16x16.Idx → EReal))
        (fun k c => (V (Proc.devRef .tc main_arg1) : S512x64.Idx → EReal) (ix2 k c)) b y x) k ∧
      ∀ o : Fin 64, (after sVq V (Proc.devRef .tc main_v108) : S8x16x16x64.Idx → EReal) (ix4 b y x o) =
          (V (Proc.devRef .tc main_arg1) : S512x64.Idx → EReal) (ix2 k o) ∧
        (after sVq V (Proc.devRef .tc main_v109) : S8x64x16x16.Idx → EReal) (ix4 b o y x) =
          (V (Proc.devRef .tc main_arg1) : S512x64.Idx → EReal) (ix2 k o) := by
  obtain ⟨k, hk, he⟩ := idx_val V b y x hd
  refine ⟨k, hk, fun o => ?_⟩
  have e : after (sVq (F := Ideal)) V = after (sVq.drop 15) (after (sVq.take 15) V) := by
    rw [← StableHlo.after_append, List.take_append_drop]
  rw [e, ← keeps_idx V]
  exact take_val _ b o y x k he

end Cert.RefProof
-- ==== Proof.RefLoss.lean ====
/- The two losses of the reference: the mean over the codebook and the pixels of the squared distances. -/
module

public import proofs.«01_k».proof.Proof.RefConv

@[expose] public section

set_option maxRecDepth 16384

noncomputable section

namespace Cert.RefProof

open Idealize.ShloMosaic Idealize.ShloMosaic.StableHlo Cert.ReferenceIdeal Cert.ReferenceIdeal.Gen Idealize.ShloMosaic.TcCoe
open Cert.Spec

/-- A mean over the codebook of one number is that number. -/
theorem mean_const (t : EReal) (h : t ≠ ⊤ ∧ t ≠ ⊥) :
    Ideal.div (∑ _k : Fin 512, t) (Ideal.ofBits .f32 0x49800000#32) = Ideal.div t 2048 := by
  have e : Ideal.ofBits .f32 0x49800000#32 = ((1048576 : ℝ) : EReal) := by
    simp [Ideal.ofBits, Ideal.ieee, -EReal.coe_mul]; norm_num
  lift t to ℝ using h
  rw [e, show (2048 : EReal) = ((2048 : ℝ) : EReal) from rfl]
  have s : (∑ _k : Fin 512, (t : EReal)) = ((512 * t : ℝ) : EReal) := by
    rw [Finset.sum_const, Finset.card_univ, Fintype.card_fin, ← EReal.coe_nsmul]; simp
  rw [s]
  rw [Ideal.div_coe (by norm_num), Ideal.div_coe (by norm_num), ← EReal.coe_mul, ← EReal.coe_mul]
  congr 1; ring

/-- The first loss. -/
theorem loss1_val (V : Valuation τ sig (Elt Ideal)) (Z Q : Img 64 16)
    (hZ : ∀ b y x k c, (V (Proc.devRef .tc main_v98) : S8x16x16x512x64.Idx → EReal) (ix5 b y x k c) = Z b c y x)
    (hQ : ∀ b y x c, (V (Proc.devRef .tc main_v108) : S8x16x16x64.Idx → EReal) (ix4 b y x c) = Q b c y x)
    (hf : sqDist Z Q ≠ ⊤ ∧ sqDist Z Q ≠ ⊥) (i : S_.Idx) :
    (after sLoss V (Proc.devRef .tc main_v224) : S_.Idx → EReal) i = loss Z Q := by
  unfold sLoss part3 part4
  simp only [List.cons_append, List.nil_append]
  after_reads_simp
  pointwise
  rw [Ideal.hostReduceAdd_total _ (by decide), zero_add, sum_idx4]
  pointwise
  simp only [hZ, hQ]
  exact mean_const _ hf

/-- The second loss. -/
theorem loss2_val (V : Valuation τ sig (Elt Ideal)) (Z Q : Img 64 16)
    (hZ : ∀ b y x k c, (V (Proc.devRef .tc main_v98) : S8x16x16x512x64.Idx → EReal) (ix5 b y x k c) = Z b c y x)
    (hQ : ∀ b y x c, (V (Proc.devRef .tc main_v108) : S8x16x16x64.Idx → EReal) (ix4 b y x c) = Q b c y x)
    (hf : sqDist Z Q ≠ ⊤ ∧ sqDist Z Q ≠ ⊥) (i : S_.Idx) :
    (after sLoss V (Proc.devRef .tc main_v231) : S_.Idx → EReal) i = loss Z Q := by
  unfold sLoss part3 part4
  simp only [List.cons_append, List.nil_append]
  after_reads_simp
  pointwise
  rw [Ideal.hostReduceAdd_total _ (by decide), zero_add, sum_idx4]
  pointwise
  simp only [hZ, hQ]
  exact mean_const _ hf

/-- The image the losses read is the encoder's, once for each row of the codebook. -/
theorem v98_val (V : Valuation τ sig (Elt Ideal)) (b : Fin 8) (y x : Fin 16) (k : Fin 512) (c : Fin 64) :
    (after sVq V (Proc.devRef .tc main_v98) : S8x16x16x512x64.Idx → EReal) (ix5 b y x k c) =
      (V (Proc.devRef .tc main_v95) : S8x64x16x16.Idx → EReal) (ix4 b c y x) := by
  unfold sVq part1
  simp only
  after_reads_simp
  pointwise

/-- The decoder's operations keep what the losses read. -/
theorem keeps_v98 (V : Valuation τ sig (Elt Ideal)) :
    after (sRb3 ++ (sRb4 ++ (sDec1 ++ sDec2))) V (Proc.devRef .tc main_v98) = V (Proc.devRef .tc main_v98) := by
  simp only [StableHlo.after_append]
  unfold sDec2 sDec1 sRb4 sRb3 part1 part2 part3
  simp only [List.cons_append, List.nil_append]
  after_reads_simp

theorem keeps_v108 (V : Valuation τ sig (Elt Ideal)) :
    after (sRb3 ++ (sRb4 ++ (sDec1 ++ sDec2))) V (Proc.devRef .tc main_v108) = V (Proc.devRef .tc main_v108) := by
  simp only [StableHlo.after_append]
  unfold sDec2 sDec1 sRb4 sRb3 part1 part2 part3
  simp only [List.cons_append, List.nil_append]
  after_reads_simp

/-- The losses' operations keep the reconstruction. -/
theorem keeps_v216 (V : Valuation τ sig (Elt Ideal)) :
    after sLoss V (Proc.devRef .tc main_v216) = V (Proc.devRef .tc main_v216) := by
  unfold sLoss part3 part4
  simp only [List.cons_append, List.nil_append]
  after_reads_simp

end Cert.RefProof
-- ==== Proof.RefVal.lean ====
/- What the reference computes: the model's functions of its arguments. -/
module

public import proofs.«01_k».proof.Proof.RefVqVal
public import proofs.«01_k».proof.Proof.RefLoss
public import proofs.«01_k».proof.Proof.SpecFin

@[expose] public section

set_option maxRecDepth 16384

noncomputable section

namespace Cert.RefProof

open Idealize.ShloMosaic Idealize.ShloMosaic.StableHlo Cert.ReferenceIdeal Cert.ReferenceIdeal.Gen Idealize.ShloMosaic.TcCoe
open Cert.Spec Cert.Split

/-- The encoder of the arguments a valuation holds. -/
def refEnc (V : Valuation τ sig (Elt Ideal)) : Img 64 16 :=
  encoder (at4 (V (Proc.devRef .tc main_arg0) : S8x3x64x64.Idx → EReal)) (at4 (V (Proc.devRef .tc main_arg2) : S64x3x4x4.Idx → EReal))
    (at4 (V (Proc.devRef .tc main_arg3) : S64x64x4x4.Idx → EReal)) (at4 (V (Proc.devRef .tc main_arg4) : S64x64x3x3.Idx → EReal))
    (at4 (V (Proc.devRef .tc main_arg5) : S64x64x1x1.Idx → EReal)) (at4 (V (Proc.devRef .tc main_arg6) : S64x64x3x3.Idx → EReal))
    (at4 (V (Proc.devRef .tc main_arg7) : S64x64x1x1.Idx → EReal))

/-- The codebook a valuation holds. -/
def refBook (V : Valuation τ sig (Elt Ideal)) : Fin 512 → Fin 64 → EReal :=
  fun k c => (V (Proc.devRef .tc main_arg1) : S512x64.Idx → EReal) (ix2 k c)

/-- The decoder of an image by the arguments a valuation holds. -/
def refDec (V : Valuation τ sig (Elt Ideal)) (Q : Img 64 16) : Img 3 64 :=
  decoder Q (at4 (V (Proc.devRef .tc main_arg8) : S64x64x3x3.Idx → EReal)) (at4 (V (Proc.devRef .tc main_arg9) : S64x64x1x1.Idx → EReal))
    (at4 (V (Proc.devRef .tc main_arg10) : S64x64x3x3.Idx → EReal)) (at4 (V (Proc.devRef .tc main_arg11) : S64x64x1x1.Idx → EReal))
    (at4 (V (Proc.devRef .tc main_arg12) : S64x64x4x4.Idx → EReal)) (fun o => (V (Proc.devRef .tc main_arg13) : S64.Idx → EReal) (ix1 o))
    (at4 (V (Proc.devRef .tc main_arg14) : S64x3x4x4.Idx → EReal)) (fun o => (V (Proc.devRef .tc main_arg15) : S3.Idx → EReal) (ix1 o))

/-- The operations of the encoder, and of the decoder. -/
def encOps : Ops Ideal := sConv1 ++ (sConv2 ++ (sRb1 ++ sRb2))
def decOps : Ops Ideal := sRb3 ++ (sRb4 ++ (sDec1 ++ sDec2))

theorem keeps_enc : Keeps encOps := keeps_conv1.append <| keeps_conv2.append <| keeps_rb1.append keeps_rb2
theorem keeps_dec : Keeps decOps := keeps_rb3.append <| keeps_rb4.append <| keeps_dec1.append keeps_dec2

theorem at4_eq {a b c d : ℕ} {A : (⟨4, ![a, b, c, d]⟩ : Shape).Idx → EReal} {Z : Fin a → Fin b → Fin c → Fin d → EReal}
    (h : ∀ p q r s, A (ix4 p q r s) = Z p q r s) : at4 A = Z := by funext p q r s; exact h p q r s

/-- The encoder's operations leave the encoder of the arguments. -/
theorem enc_val (V : Valuation τ sig (Elt Ideal)) :
    at4 (after encOps V (Proc.devRef .tc main_v95) : S8x64x16x16.Idx → EReal) = refEnc V := by
  unfold encOps
  simp only [StableHlo.after_append]
  rw [at4_eq (rb2_val _), at4_eq (rb1_val _), at4_eq (conv2_val _), at4_eq (conv1_val _)]
  rw [keeps_rb1 _ main_arg6 (by simp), keeps_rb1 _ main_arg7 (by simp), keeps_conv2 _ main_arg6 (by simp),
    keeps_conv2 _ main_arg7 (by simp), keeps_conv2 _ main_arg4 (by simp), keeps_conv2 _ main_arg5 (by simp),
    keeps_conv1 _ main_arg3 (by simp), keeps_conv1 _ main_arg4 (by simp), keeps_conv1 _ main_arg5 (by simp),
    keeps_conv1 _ main_arg6 (by simp), keeps_conv1 _ main_arg7 (by simp)]
  rfl

/-- The decoder's operations leave the decoder of the quantised image. -/
theorem dec_val (V : Valuation τ sig (Elt Ideal)) :
    at4 (after decOps V (Proc.devRef .tc main_v216) : S8x3x64x64.Idx → EReal) =
      refDec V (at4 (V (Proc.devRef .tc main_v109) : S8x64x16x16.Idx → EReal)) := by
  unfold decOps
  simp only [StableHlo.after_append]
  rw [at4_eq (dec2_val _), at4_eq (dec1_val _), at4_eq (rb4_val _), at4_eq (rb3_val _)]
  rw [keeps_dec1 _ main_arg14 (by simp), keeps_dec1 _ main_arg15 (by simp), keeps_rb4 _ main_arg12 (by simp),
    keeps_rb4 _ main_arg13 (by simp), keeps_rb4 _ main_arg14 (by simp), keeps_rb4 _ main_arg15 (by simp),
    keeps_rb3 _ main_arg10 (by simp), keeps_rb3 _ main_arg11 (by simp), keeps_rb3 _ main_arg12 (by simp),
    keeps_rb3 _ main_arg13 (by simp), keeps_rb3 _ main_arg14 (by simp), keeps_rb3 _ main_arg15 (by simp)]
  rfl

/-- What the decoder reads besides the image it is given. -/
theorem refDec_congr {V W : Valuation τ sig (Elt Ideal)}
    (h : ∀ a ∈ argRefs, W (Proc.devRef .tc a) = V (Proc.devRef .tc a)) (Q : Img 64 16) : refDec W Q = refDec V Q := by
  unfold refDec
  rw [h main_arg8 (by simp), h main_arg9 (by simp), h main_arg10 (by simp), h main_arg11 (by simp), h main_arg12 (by simp),
    h main_arg13 (by simp), h main_arg14 (by simp), h main_arg15 (by simp)]

/-- What the reference computes of finite encoder arguments: the decoder of the quantised image, and twice the loss. -/
theorem ref_val (V : Valuation τ sig (Elt Ideal)) (hZ : Fin4 (refEnc V)) (hE : ∀ k c, fin1 (refBook V k c)) :
    ∃ Q : Img 64 16, IsQuant (refEnc V) (refBook V) Q ∧
      at4 (after ops V (Proc.devRef .tc main_v216) : S8x3x64x64.Idx → EReal) = refDec V Q ∧
      (∀ i, (after ops V (Proc.devRef .tc main_v224) : S_.Idx → EReal) i = loss (refEnc V) Q) ∧
      ∀ i, (after ops V (Proc.devRef .tc main_v231) : S_.Idx → EReal) i = loss (refEnc V) Q := by
  have hops : after ops V = after sLoss (after decOps (after sVq (after encOps V))) := by
    unfold ops encOps decOps
    simp only [StableHlo.after_append]
  have hb : (fun k c => (after encOps V (Proc.devRef .tc main_arg1) : S512x64.Idx → EReal) (ix2 k c)) = refBook V := by
    rw [keeps_enc _ main_arg1 (by simp)]; rfl
  have hq := fun b y x => vq_val (after encOps V) b y x (by
    rw [enc_val, hb]; exact dist_ne_top hZ hE b y x)
  rw [enc_val, hb] at hq
  choose k hk hv using hq
  refine ⟨fun b o y x => refBook V (k b y x) o, fun b y x => ⟨k b y x, hk b y x, fun o => rfl⟩, ?_, ?_, ?_⟩
  · rw [hops, keeps_v216, dec_val, refDec_congr (V := V)]
    · congr 1
      funext b o y x
      exact (hv b y x o).2.trans (congrFun (congrFun hb _) _)
    · intro a ha
      rw [keeps_vq _ a ha, keeps_enc _ a ha]
  all_goals
    intro i
    rw [hops]
    first
      | refine loss1_val _ _ _ (fun b y x k' c => ?_) (fun b y x c => ?_) ?_ i
      | refine loss2_val _ _ _ (fun b y x k' c => ?_) (fun b y x c => ?_) ?_ i
    · unfold decOps
      rw [keeps_v98, v98_val]
      exact congrFun (congrFun (congrFun (congrFun (enc_val V) b) c) y) x
    · unfold decOps
      rw [keeps_v108]
      exact (hv b y x c).1.trans (congrFun (congrFun hb _) _)
    · exact fin1_sqDist hZ fun b o y x => hE _ _

end Cert.RefProof
-- ==== Proof.Equation.lean ====
module

public import proofs.«01_k».proof.Proof.KernelVal
public import proofs.«01_k».proof.Proof.KernelFin
public import proofs.«01_k».proof.Proof.KernelRun
public import proofs.«01_k».proof.Proof.RefVal

/-! The kernel and the reference leave the same results. -/

@[expose] public section

set_option maxRecDepth 16384

noncomputable section

namespace Cert.Equation

open Idealize.ShloMosaic Idealize.ShloMosaic.TcCoe Idealize.ShloMosaic.StableHlo Idealize.SL.Sem
open Cert.Spec Cert.Split Cert.KernelProof Cert.RefProof

/-- An array of four axes is known by its entries. -/
theorem at4_inj {a b c d : ℕ} {A B : (⟨4, ![a, b, c, d]⟩ : Shape).Idx → EReal} (h : at4 A = at4 B) : A = B := by
  funext i
  obtain ⟨p, q, r, s, rfl⟩ : ∃ (p : Fin a) (q : Fin b) (r : Fin c) (s : Fin d), i = ix4 p q r s :=
    ⟨i 0, i 1, i 2, i 3, by funext k; fin_cases k <;> rfl⟩
  exact congrFun (congrFun (congrFun (congrFun h p) q) r) s

variable (m : (ℓ : Loc Cert.KernelIdeal.nD Cert.KernelIdeal.τ Cert.KernelIdeal.sig) → Buf (Elt Ideal) ℓ)
  (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Both programs are launched on the same arguments. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

variable {m m' c}

/-- On the same arguments the encoder, the table and the decoder are the same. -/
theorem same_args (h : Same m m' c) : refEnc (launchContents m' c) = kEnc m c ∧ refBook (launchContents m' c) = k1 m c ∧
    ∀ Q, refDec (launchContents m' c) Q = kDec m c Q := by
  obtain ⟨h0, h1, h2, h3, h4, h5, h6, h7, h8, h9, h10, h11, h12, h13, h14, h15⟩ := h
  refine ⟨?_, ?_, fun Q => ?_⟩
  · unfold refEnc kEnc k0 k2 k3 k4 k5 k6 k7
    simp only [launchContents_devRef, h0, h2, h3, h4, h5, h6, h7]
  · unfold refBook k1
    simp only [launchContents_devRef, h1]
  · unfold refDec kDec k8 k9 k10 k11 k12 k13 k14 k15
    simp only [launchContents_devRef, h8, h9, h10, h11, h12, h13, h14, h15]

/-- On the same arguments, finite where the encoder reads them, both programs leave the same three results. -/
theorem same_results (h : Same m m' c) (hf : Finite m c) :
    (after ops (launchContents m' c) (Proc.devRef .tc Cert.ReferenceIdeal.main_v216) : Cert.ReferenceIdeal.S8x3x64x64.Idx → EReal)
      = (Cert.KernelIdeal.Gen.W29 m g c (Proc.devRef .tc Cert.KernelIdeal.main_v101) : Cert.KernelIdeal.S8x3x64x64.Idx → EReal) ∧
    (after ops (launchContents m' c) (Proc.devRef .tc Cert.ReferenceIdeal.main_v224) : Cert.ReferenceIdeal.S_.Idx → EReal)
      = (Cert.KernelIdeal.Gen.W29 m g c (Proc.devRef .tc Cert.KernelIdeal.main_v102) : Cert.KernelIdeal.S_.Idx → EReal) ∧
    (after ops (launchContents m' c) (Proc.devRef .tc Cert.ReferenceIdeal.main_v231) : Cert.ReferenceIdeal.S_.Idx → EReal)
      = (Cert.KernelIdeal.Gen.W29 m g c (Proc.devRef .tc Cert.KernelIdeal.main_v102) : Cert.KernelIdeal.S_.Idx → EReal) := by
  obtain ⟨e, b, d⟩ := same_args h
  obtain ⟨Q, hq, r1, r2, r3⟩ := ref_val (launchContents m' c) (by rw [e]; exact hf.e4) (by rw [b]; exact hf.h1)
  obtain ⟨Q', hq', s1, s2⟩ := kernel_val g hf
  rw [e, b] at hq
  obtain rfl := hq.unique hq'
  rw [e] at r2 r3
  exact ⟨at4_inj (r1.trans ((d Q).trans s1.symm)), funext fun i => (r2 i).trans (s2 i).symm,
    funext fun i => (r3 i).trans (s2 i).symm⟩

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- On the same arguments, finite where the encoder reads them, the kernel and the reference leave the same results, over
    the reals, and both leave their arguments as they were. -/
theorem algebraic : Cert.algebraic_KernelIdeal_ReferenceIdeal_pre_encoder_finite := by
  intro m g m' g' hp hs
  have e := fun c => Cert.Equation.same_results g (hs c) (Cert.KernelProof.finite_of_pre m hp c)
  refine ⟨fun c => Cert.KernelIdeal.Gen.W29 m g c (Proc.devRef .tc Cert.KernelIdeal.main_v101),
    fun c => Cert.KernelIdeal.Gen.W29 m g c (Proc.devRef .tc Cert.KernelIdeal.main_v102),
    fun c => Cert.KernelIdeal.Gen.W29 m g c (Proc.devRef .tc Cert.KernelIdeal.main_v102), ?_, ?_⟩
  · refine θ_run_mono (Cert.KernelProof.run_results m g) fun r h c => ?_
    have ha := (h c).2.2
    simp only [List.forall_mem_cons] at ha
    obtain ⟨h0, h1, h2, h3, h4, h5, h6, h7, h8, h9, h10, h11, h12, h13, h14, h15, -⟩ := ha
    exact ⟨(h c).1, (h c).2.1, (h c).2.1, h0, h1, h2, h3, h4, h5, h6, h7, h8, h9, h10, h11, h12, h13, h14, h15⟩
  · refine θ_run_mono (θ_run_and (Cert.RefProof.run m' g') (Cert.RefProof.run_args m' g')) fun r h c => ?_
    have ha := h.2.1 c
    simp only [List.forall_mem_cons] at ha
    obtain ⟨h0, h1, h2, h3, h4, h5, h6, h7, h8, h9, h10, h11, h12, h13, h14, h15, -⟩ := ha
    exact ⟨(h.1 c _).trans (e c).1, (h.1 c _).trans (e c).2.1, (h.1 c _).trans (e c).2.2, h0, h1, h2, h3, h4, h5, h6, h7, h8, h9, h10, h11, h12, h13, h14, h15⟩

/-- The claims: the frames of the kernel, of its idealization and of the reference, that the idealization keeps the
    kernel's text, and that the idealization and the reference leave the same results. -/
theorem claim : Cert.Claim := ⟨Cert.Kernel.Gen.facts, Cert.KernelIdeal.Gen.facts, Cert.ReferenceIdeal.Gen.facts,
  Cert.KernelProof.preFacts, fun m g _ => Cert.Kernel.Gen.frame m g, fun m g _ => Cert.KernelIdeal.Gen.frame m g,
  fun m g _ => Cert.KernelIdeal.Gen.frame m g, Cert.RefProof.frame, fun m g _ => Cert.RefProof.frame m g trivial, trivial,
  algebraic⟩

end Cert.Proof

end
